-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x768x16384 : Shape := ⟨3, ![2, 768, 16384]⟩
abbrev S2 : Shape := ⟨1, ![2]⟩
abbrev S2x24x32x16384 : Shape := ⟨4, ![2, 24, 32, 16384]⟩
abbrev S_ : Shape := ⟨0, ![]⟩
abbrev S2x24x16384 : Shape := ⟨3, ![2, 24, 16384]⟩

class Facts : Prop where
  bitsLt_bf16_f32 : FTy.bits .bf16 < FTy.bits .f32
  shapeCasts_S2x768x16384_S2x24x32x16384 : S2x768x16384.ShapeCasts S2x24x32x16384
  reducesTo_S2x24x32x16384_S2x24x16384_d2 : S2x24x32x16384.ReducesTo [2] S2x24x16384
  h_S_ : 0 < S_.numel
  bcast_S_S2x24x16384 : S_.BroadcastsInDim S2x24x16384 (![] : Fin 0 → Fin S2x24x16384.rank)
  reducesTo_S2x24x16384_S_d0_1_2 : S2x24x16384.ReducesTo [0, 1, 2] S_

variable [Facts]

def fn {F : FTy → Type} [FloatOps F] (main_arg0 : FVec F S2x768x16384 .bf16) (main_arg1 : IVec S2 32) : IVec S_ 1 :=
  let main_v0 : FVec F S2x768x16384 .f32 := (extf .f32 · bitsLt_bf16_f32) main_arg0
  let main_v1 : FVec F S2x768x16384 .f32 := Host.absf main_v0
  let main_v2 : FVec F S2x24x32x16384 .f32 := shapeCast S2x24x32x16384 main_v1 shapeCasts_S2x768x16384_S2x24x32x16384
  let main_cst : FVec F S_ .f32 := constant S_ .f32 0xFF800000#32
  let main_v3 : FVec F S2x24x16384 .f32 := (fun x v => Host.reduce FloatOps.maximumf x v reducesTo_S2x24x32x16384_S2x24x16384_d2 h_S_) main_v2 main_cst
  let main_cst_0 : FVec F S_ .f32 := constant S_ .f32 0x00000000#32
  let main_v4 : FVec F S2x24x16384 .f32 := broadcastInDim S2x24x16384 ![] bcast_S_S2x24x16384 main_cst_0
  let main_v5 : IVec S2x24x16384 1 := cmpf .oeq main_v3 main_v4
  let main_cst_1 : FVec F S_ .f32 := constant S_ .f32 0x01000000#32
  let main_v6 : FVec F S2x24x16384 .f32 := broadcastInDim S2x24x16384 ![] bcast_S_S2x24x16384 main_cst_1
  let main_v7 : IVec S2x24x16384 1 := cmpf .oge main_v3 main_v6
  let main_cst_2 : FVec F S_ .f32 := constant S_ .f32 0x7F7F0000#32
  let main_v8 : FVec F S2x24x16384 .f32 := broadcastInDim S2x24x16384 ![] bcast_S_S2x24x16384 main_cst_2
  let main_v9 : IVec S2x24x16384 1 := cmpf .ole main_v3 main_v8
  let main_v10 : IVec S2x24x16384 1 := andi main_v7 main_v9
  let main_v11 : IVec S2x24x16384 1 := ori main_v5 main_v10
  let main_c : IVec S_ 1 := constantI S_ 1 1#1
  let main_v12 : IVec S_ 1 := (fun x v => Host.reduce IntOp.andi x v reducesTo_S2x24x16384_S_d0_1_2 h_S_) main_v11 main_c
  main_v12
-- ==== Kernel.lean ====
abbrev S2x768x16384 : Shape := ⟨3, ![2, 768, 16384]⟩
abbrev S2 : Shape := ⟨1, ![2]⟩
abbrev S512x512 : Shape := ⟨2, ![512, 512]⟩
abbrev S_ : Shape := ⟨0, ![]⟩
abbrev S2x16384x384 : Shape := ⟨3, ![2, 16384, 384]⟩
abbrev S2x16384x24 : Shape := ⟨3, ![2, 16384, 24]⟩
abbrev S1x768x512 : Shape := ⟨3, ![1, 768, 512]⟩
abbrev S1x512x384 : Shape := ⟨3, ![1, 512, 384]⟩
abbrev S1x512x24 : Shape := ⟨3, ![1, 512, 24]⟩
abbrev S24x512 : Shape := ⟨2, ![24, 512]⟩
abbrev S128x512 : Shape := ⟨2, ![128, 512]⟩
abbrev S128x128 : Shape := ⟨2, ![128, 128]⟩
abbrev S384x128 : Shape := ⟨2, ![384, 128]⟩
abbrev S1 : Shape := ⟨1, ![1]⟩
abbrev S768x512 : Shape := ⟨2, ![768, 512]⟩
abbrev S24x32x512 : Shape := ⟨3, ![24, 32, 512]⟩
abbrev S512x24 : Shape := ⟨2, ![512, 24]⟩
abbrev S32x128 : Shape := ⟨2, ![32, 128]⟩
abbrev S1x512 : Shape := ⟨2, ![1, 512]⟩
abbrev S1x32x512 : Shape := ⟨3, ![1, 32, 512]⟩
abbrev S32x512 : Shape := ⟨2, ![32, 512]⟩
abbrev S1x128 : Shape := ⟨2, ![1, 128]⟩
abbrev S64x128 : Shape := ⟨2, ![64, 128]⟩
abbrev S128x384 : Shape := ⟨2, ![128, 384]⟩
abbrev S512x384 : Shape := ⟨2, ![512, 384]⟩

abbrev nBuf : Space → Nat
  | .hbm => 23
  | .vmem => 11
  | .smem => 1
  | _ => 0

abbrev bufTy : (tb : Table) → Fin (tcTables nBuf tb) → BufTy
  | .hbm, ⟨0, _⟩ => ⟨S2x768x16384, .bf16⟩
  | .hbm, ⟨1, _⟩ => ⟨S2, .i32⟩
  | .hbm, ⟨2, _⟩ => ⟨S512x512, .i32⟩
  | .hbm, ⟨3, _⟩ => ⟨S512x512, .i32⟩
  | .hbm, ⟨4, _⟩ => ⟨S_, .i32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S_, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S_, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .bf16⟩
  | .hbm, ⟨21, _⟩ => ⟨S2x16384x384, .i8⟩
  | .hbm, ⟨22, _⟩ => ⟨S2x16384x24, .i8⟩
  | .local _ .vmem, ⟨0, _⟩ => ⟨S512x512, .bf16⟩
  | .local _ .vmem, ⟨1, _⟩ => ⟨S1x768x512, .bf16⟩
  | .local _ .vmem, ⟨2, _⟩ => ⟨S1x768x512, .bf16⟩
  | .local _ .vmem, ⟨3, _⟩ => ⟨S1x512x384, .i8⟩
  | .local _ .vmem, ⟨4, _⟩ => ⟨S1x512x384, .i8⟩
  | .local _ .vmem, ⟨5, _⟩ => ⟨S1x512x24, .i8⟩
  | .local _ .vmem, ⟨6, _⟩ => ⟨S1x512x24, .i8⟩
  | .local _ .vmem, ⟨7, _⟩ => ⟨S24x512, .f32⟩
  | .local _ .vmem, ⟨8, _⟩ => ⟨S128x512, .f32⟩
  | .local _ .vmem, ⟨9, _⟩ => ⟨S128x128, .i32⟩
  | .local _ .vmem, ⟨10, _⟩ => ⟨S384x128, .i32⟩
  | .local _ .smem, ⟨0, _⟩ => ⟨S2, .i32⟩
  | _, _ => ⟨S2x768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_39 : BitVec 32 := 0#32
  let c4_i32_40 : BitVec 32 := 4#32
  let v124 : BitVec 32 := Scalar.addi c0_i32_39 c4_i32_40
  let c1_i32_41 : BitVec 32 := 1#32
  ⟨c0_i32_39, v124, c1_i32_41⟩
def k0_off1 (k0_t1 : Fin k0_t1_loop.trips) : Fin 2 → Nat :=
  let c0_i32_39 : BitVec 32 := 0#32
  let c1_i32_41 : BitVec 32 := 1#32
  let arg11 : BitVec 32 := Scf.iv c0_i32_39 c1_i32_41 k0_t1
  let c32_i32_195 : BitVec 32 := 32#32
  let v339 : BitVec 32 := Scalar.muli arg11 c32_i32_195
  let v852 : Index := Scalar.indexCast v339
  let c0_387 : Index := 0#32
  ![v852.toNat, 0]
def k0_off2 (k0_t1 : Fin k0_t1_loop.trips) : Fin 2 → Nat :=
  let c0_i32_39 : BitVec 32 := 0#32
  let c1_i32_41 : BitVec 32 := 1#32
  let arg11 : BitVec 32 := Scf.iv c0_i32_39 c1_i32_41 k0_t1
  let c32_i32_195 : BitVec 32 := 32#32
  let v339 : BitVec 32 := Scalar.muli arg11 c32_i32_195
  let v854 : Index := Scalar.indexCast v339
  let c128_388 : Index := 128#32
  ![v854.toNat, 128]
def k0_off3 (k0_t1 : Fin k0_t1_loop.trips) : Fin 2 → Nat :=
  let c0_i32_39 : BitVec 32 := 0#32
  let c1_i32_41 : BitVec 32 := 1#32
  let arg11 : BitVec 32 := Scf.iv c0_i32_39 c1_i32_41 k0_t1
  let c32_i32_195 : BitVec 32 := 32#32
  let v339 : BitVec 32 := Scalar.muli arg11 c32_i32_195
  let v856 : Index := Scalar.indexCast v339
  let c256_389 : Index := 256#32
  ![v856.toNat, 256]
def k0_off4 (k0_t1 : Fin k0_t1_loop.trips) : Fin 2 → Nat :=
  let c0_i32_39 : BitVec 32 := 0#32
  let c1_i32_41 : BitVec 32 := 1#32
  let arg11 : BitVec 32 := Scf.iv c0_i32_39 c1_i32_41 k0_t1
  let c32_i32_195 : BitVec 32 := 32#32
  let v339 : BitVec 32 := Scalar.muli arg11 c32_i32_195
  let v858 : Index := Scalar.indexCast v339
  let c384_390 : Index := 384#32
  ![v858.toNat, 384]
def k0_off5 (k0_t1 : Fin k0_t1_loop.trips) : Fin 2 → Nat :=
  let c0_i32_39 : BitVec 32 := 0#32
  let c1_i32_41 : BitVec 32 := 1#32
  let arg11 : BitVec 32 := Scf.iv c0_i32_39 c1_i32_41 k0_t1
  let c32_i32_195 : BitVec 32 := 32#32
  let v339 : BitVec 32 := Scalar.muli arg11 c32_i32_195
  let v1027 : Index := Scalar.indexCast v339
  let c0_448 : Index := 0#32
  ![v1027.toNat, 0]
@[reducible] def k0_t2_loop : Scf.Loop 32 :=
  let c0_i32_67 : BitVec 32 := 0#32
  let c4_i32_68 : BitVec 32 := 4#32
  let v164 : BitVec 32 := Scalar.addi c0_i32_67 c4_i32_68
  let c1_i32_69 : BitVec 32 := 1#32
  ⟨c0_i32_67, v164, c1_i32_69⟩
def k0_off6 (k0_t2 : Fin k0_t2_loop.trips) : Fin 2 → Nat :=
  let c0_i32_67 : BitVec 32 := 0#32
  let c1_i32_69 : BitVec 32 := 1#32
  let arg11 : BitVec 32 := Scf.iv c0_i32_67 c1_i32_69 k0_t2
  let c32_i32_195 : BitVec 32 := 32#32
  let v339 : BitVec 32 := Scalar.muli arg11 c32_i32_195
  let v852 : Index := Scalar.indexCast v339
  let c0_387 : Index := 0#32
  ![v852.toNat, 0]
def k0_off7 (k0_t2 : Fin k0_t2_loop.trips) : Fin 2 → Nat :=
  let c0_i32_67 : BitVec 32 := 0#32
  let c1_i32_69 : BitVec 32 := 1#32
  let arg11 : BitVec 32 := Scf.iv c0_i32_67 c1_i32_69 k0_t2
  let c32_i32_195 : BitVec 32 := 32#32
  let v339 : BitVec 32 := Scalar.muli arg11 c32_i32_195
  let v854 : Index := Scalar.indexCast v339
  let c128_388 : Index := 128#32
  ![v854.toNat, 128]
def k0_off8 (k0_t2 : Fin k0_t2_loop.trips) : Fin 2 → Nat :=
  let c0_i32_67 : BitVec 32 := 0#32
  let c1_i32_69 : BitVec 32 := 1#32
  let arg11 : BitVec 32 := Scf.iv c0_i32_67 c1_i32_69 k0_t2
  let c32_i32_195 : BitVec 32 := 32#32
  let v339 : BitVec 32 := Scalar.muli arg11 c32_i32_195
  let v856 : Index := Scalar.indexCast v339
  let c256_389 : Index := 256#32
  ![v856.toNat, 256]
def k0_off9 (k0_t2 : Fin k0_t2_loop.trips) : Fin 2 → Nat :=
  let c0_i32_67 : BitVec 32 := 0#32
  let c1_i32_69 : BitVec 32 := 1#32
  let arg11 : BitVec 32 := Scf.iv c0_i32_67 c1_i32_69 k0_t2
  let c32_i32_195 : BitVec 32 := 32#32
  let v339 : BitVec 32 := Scalar.muli arg11 c32_i32_195
  let v858 : Index := Scalar.indexCast v339
  let c384_390 : Index := 384#32
  ![v858.toNat, 384]
def k0_off10 (k0_t2 : Fin k0_t2_loop.trips) : Fin 2 → Nat :=
  let c0_i32_67 : BitVec 32 := 0#32
  let c1_i32_69 : BitVec 32 := 1#32
  let arg11 : BitVec 32 := Scf.iv c0_i32_67 c1_i32_69 k0_t2
  let c32_i32_195 : BitVec 32 := 32#32
  let v339 : BitVec 32 := Scalar.muli arg11 c32_i32_195
  let v1027 : Index := Scalar.indexCast v339
  let c0_448 : Index := 0#32
  ![v1027.toNat, 0]
@[reducible] def k0_t3_loop : Scf.Loop 32 :=
  let c0_i32_95 : BitVec 32 := 0#32
  let c4_i32_96 : BitVec 32 := 4#32
  let v204 : BitVec 32 := Scalar.addi c0_i32_95 c4_i32_96
  let c1_i32_97 : BitVec 32 := 1#32
  ⟨c0_i32_95, v204, c1_i32_97⟩
def k0_off11 (k0_t3 : Fin k0_t3_loop.trips) : Fin 2 → Nat :=
  let c0_i32_95 : BitVec 32 := 0#32
  let c1_i32_97 : BitVec 32 := 1#32
  let arg11 : BitVec 32 := Scf.iv c0_i32_95 c1_i32_97 k0_t3
  let c32_i32_195 : BitVec 32 := 32#32
  let v339 : BitVec 32 := Scalar.muli arg11 c32_i32_195
  let v852 : Index := Scalar.indexCast v339
  let c0_387 : Index := 0#32
  ![v852.toNat, 0]
def k0_off12 (k0_t3 : Fin k0_t3_loop.trips) : Fin 2 → Nat :=
  let c0_i32_95 : BitVec 32 := 0#32
  let c1_i32_97 : BitVec 32 := 1#32
  let arg11 : BitVec 32 := Scf.iv c0_i32_95 c1_i32_97 k0_t3
  let c32_i32_195 : BitVec 32 := 32#32
  let v339 : BitVec 32 := Scalar.muli arg11 c32_i32_195
  let v854 : Index := Scalar.indexCast v339
  let c128_388 : Index := 128#32
  ![v854.toNat, 128]
def k0_off13 (k0_t3 : Fin k0_t3_loop.trips) : Fin 2 → Nat :=
  let c0_i32_95 : BitVec 32 := 0#32
  let c1_i32_97 : BitVec 32 := 1#32
  let arg11 : BitVec 32 := Scf.iv c0_i32_95 c1_i32_97 k0_t3
  let c32_i32_195 : BitVec 32 := 32#32
  let v339 : BitVec 32 := Scalar.muli arg11 c32_i32_195
  let v856 : Index := Scalar.indexCast v339
  let c256_389 : Index := 256#32
  ![v856.toNat, 256]
def k0_off14 (k0_t3 : Fin k0_t3_loop.trips) : Fin 2 → Nat :=
  let c0_i32_95 : BitVec 32 := 0#32
  let c1_i32_97 : BitVec 32 := 1#32
  let arg11 : BitVec 32 := Scf.iv c0_i32_95 c1_i32_97 k0_t3
  let c32_i32_195 : BitVec 32 := 32#32
  let v339 : BitVec 32 := Scalar.muli arg11 c32_i32_195
  let v858 : Index := Scalar.indexCast v339
  let c384_390 : Index := 384#32
  ![v858.toNat, 384]
def k0_off15 (k0_t3 : Fin k0_t3_loop.trips) : Fin 2 → Nat :=
  let c0_i32_95 : BitVec 32 := 0#32
  let c1_i32_97 : BitVec 32 := 1#32
  let arg11 : BitVec 32 := Scf.iv c0_i32_95 c1_i32_97 k0_t3
  let c32_i32_195 : BitVec 32 := 32#32
  let v339 : BitVec 32 := Scalar.muli arg11 c32_i32_195
  let v1027 : Index := Scalar.indexCast v339
  let c0_448 : Index := 0#32
  ![v1027.toNat, 0]
@[reducible] def k0_t4_loop : Scf.Loop 32 :=
  let c0_i32_123 : BitVec 32 := 0#32
  let c4_i32_124 : BitVec 32 := 4#32
  let v244 : BitVec 32 := Scalar.addi c0_i32_123 c4_i32_124
  let c1_i32_125 : BitVec 32 := 1#32
  ⟨c0_i32_123, v244, c1_i32_125⟩
def k0_off16 (k0_t4 : Fin k0_t4_loop.trips) : Fin 2 → Nat :=
  let c0_i32_123 : BitVec 32 := 0#32
  let c1_i32_125 : BitVec 32 := 1#32
  let arg11 : BitVec 32 := Scf.iv c0_i32_123 c1_i32_125 k0_t4
  let c32_i32_195 : BitVec 32 := 32#32
  let v339 : BitVec 32 := Scalar.muli arg11 c32_i32_195
  let v852 : Index := Scalar.indexCast v339
  let c0_386 : Index := 0#32
  ![v852.toNat, 0]
def k0_off17 (k0_t4 : Fin k0_t4_loop.trips) : Fin 2 → Nat :=
  let c0_i32_123 : BitVec 32 := 0#32
  let c1_i32_125 : BitVec 32 := 1#32
  let arg11 : BitVec 32 := Scf.iv c0_i32_123 c1_i32_125 k0_t4
  let c32_i32_195 : BitVec 32 := 32#32
  let v339 : BitVec 32 := Scalar.muli arg11 c32_i32_195
  let v854 : Index := Scalar.indexCast v339
  let c128_387 : Index := 128#32
  ![v854.toNat, 128]
def k0_off18 (k0_t4 : Fin k0_t4_loop.trips) : Fin 2 → Nat :=
  let c0_i32_123 : BitVec 32 := 0#32
  let c1_i32_125 : BitVec 32 := 1#32
  let arg11 : BitVec 32 := Scf.iv c0_i32_123 c1_i32_125 k0_t4
  let c32_i32_195 : BitVec 32 := 32#32
  let v339 : BitVec 32 := Scalar.muli arg11 c32_i32_195
  let v856 : Index := Scalar.indexCast v339
  let c256_388 : Index := 256#32
  ![v856.toNat, 256]
def k0_off19 (k0_t4 : Fin k0_t4_loop.trips) : Fin 2 → Nat :=
  let c0_i32_123 : BitVec 32 := 0#32
  let c1_i32_125 : BitVec 32 := 1#32
  let arg11 : BitVec 32 := Scf.iv c0_i32_123 c1_i32_125 k0_t4
  let c32_i32_195 : BitVec 32 := 32#32
  let v339 : BitVec 32 := Scalar.muli arg11 c32_i32_195
  let v858 : Index := Scalar.indexCast v339
  let c384_389 : Index := 384#32
  ![v858.toNat, 384]
def k0_off20 (k0_t4 : Fin k0_t4_loop.trips) : Fin 2 → Nat :=
  let c0_i32_123 : BitVec 32 := 0#32
  let c1_i32_125 : BitVec 32 := 1#32
  let arg11 : BitVec 32 := Scf.iv c0_i32_123 c1_i32_125 k0_t4
  let c32_i32_195 : BitVec 32 := 32#32
  let v339 : BitVec 32 := Scalar.muli arg11 c32_i32_195
  let v1027 : Index := Scalar.indexCast v339
  let c0_447 : Index := 0#32
  ![v1027.toNat, 0]
@[reducible] def k0_t5_loop : Scf.Loop 32 :=
  let c0_i32_151 : BitVec 32 := 0#32
  let c4_i32_152 : BitVec 32 := 4#32
  let v284 : BitVec 32 := Scalar.addi c0_i32_151 c4_i32_152
  let c1_i32_153 : BitVec 32 := 1#32
  ⟨c0_i32_151, v284, c1_i32_153⟩
def k0_off21 (k0_t5 : Fin k0_t5_loop.trips) : Fin 2 → Nat :=
  let c0_i32_151 : BitVec 32 := 0#32
  let c1_i32_153 : BitVec 32 := 1#32
  let arg11 : BitVec 32 := Scf.iv c0_i32_151 c1_i32_153 k0_t5
  let c32_i32_195 : BitVec 32 := 32#32
  let v339 : BitVec 32 := Scalar.muli arg11 c32_i32_195
  let v852 : Index := Scalar.indexCast v339
  let c0_386 : Index := 0#32
  ![v852.toNat, 0]
def k0_off22 (k0_t5 : Fin k0_t5_loop.trips) : Fin 2 → Nat :=
  let c0_i32_151 : BitVec 32 := 0#32
  let c1_i32_153 : BitVec 32 := 1#32
  let arg11 : BitVec 32 := Scf.iv c0_i32_151 c1_i32_153 k0_t5
  let c32_i32_195 : BitVec 32 := 32#32
  let v339 : BitVec 32 := Scalar.muli arg11 c32_i32_195
  let v854 : Index := Scalar.indexCast v339
  let c128_387 : Index := 128#32
  ![v854.toNat, 128]
def k0_off23 (k0_t5 : Fin k0_t5_loop.trips) : Fin 2 → Nat :=
  let c0_i32_151 : BitVec 32 := 0#32
  let c1_i32_153 : BitVec 32 := 1#32
  let arg11 : BitVec 32 := Scf.iv c0_i32_151 c1_i32_153 k0_t5
  let c32_i32_195 : BitVec 32 := 32#32
  let v339 : BitVec 32 := Scalar.muli arg11 c32_i32_195
  let v856 : Index := Scalar.indexCast v339
  let c256_388 : Index := 256#32
  ![v856.toNat, 256]
def k0_off24 (k0_t5 : Fin k0_t5_loop.trips) : Fin 2 → Nat :=
  let c0_i32_151 : BitVec 32 := 0#32
  let c1_i32_153 : BitVec 32 := 1#32
  let arg11 : BitVec 32 := Scf.iv c0_i32_151 c1_i32_153 k0_t5
  let c32_i32_195 : BitVec 32 := 32#32
  let v339 : BitVec 32 := Scalar.muli arg11 c32_i32_195
  let v858 : Index := Scalar.indexCast v339
  let c384_389 : Index := 384#32
  ![v858.toNat, 384]
def k0_off25 (k0_t5 : Fin k0_t5_loop.trips) : Fin 2 → Nat :=
  let c0_i32_151 : BitVec 32 := 0#32
  let c1_i32_153 : BitVec 32 := 1#32
  let arg11 : BitVec 32 := Scf.iv c0_i32_151 c1_i32_153 k0_t5
  let c32_i32_195 : BitVec 32 := 32#32
  let v339 : BitVec 32 := Scalar.muli arg11 c32_i32_195
  let v1027 : Index := Scalar.indexCast v339
  let c0_447 : Index := 0#32
  ![v1027.toNat, 0]
@[reducible] def k0_t6_loop : Scf.Loop 32 :=
  let c0_i32_179 : BitVec 32 := 0#32
  let c4_i32_180 : BitVec 32 := 4#32
  let v324 : BitVec 32 := Scalar.addi c0_i32_179 c4_i32_180
  let c1_i32_181 : BitVec 32 := 1#32
  ⟨c0_i32_179, v324, c1_i32_181⟩
def k0_off26 (k0_t6 : Fin k0_t6_loop.trips) : Fin 2 → Nat :=
  let c0_i32_179 : BitVec 32 := 0#32
  let c1_i32_181 : BitVec 32 := 1#32
  let arg11 : BitVec 32 := Scf.iv c0_i32_179 c1_i32_181 k0_t6
  let c32_i32_195 : BitVec 32 := 32#32
  let v339 : BitVec 32 := Scalar.muli arg11 c32_i32_195
  let v852 : Index := Scalar.indexCast v339
  let c0_386 : Index := 0#32
  ![v852.toNat, 0]
def k0_off27 (k0_t6 : Fin k0_t6_loop.trips) : Fin 2 → Nat :=
  let c0_i32_179 : BitVec 32 := 0#32
  let c1_i32_181 : BitVec 32 := 1#32
  let arg11 : BitVec 32 := Scf.iv c0_i32_179 c1_i32_181 k0_t6
  let c32_i32_195 : BitVec 32 := 32#32
  let v339 : BitVec 32 := Scalar.muli arg11 c32_i32_195
  let v854 : Index := Scalar.indexCast v339
  let c128_387 : Index := 128#32
  ![v854.toNat, 128]
def k0_off28 (k0_t6 : Fin k0_t6_loop.trips) : Fin 2 → Nat :=
  let c0_i32_179 : BitVec 32 := 0#32
  let c1_i32_181 : BitVec 32 := 1#32
  let arg11 : BitVec 32 := Scf.iv c0_i32_179 c1_i32_181 k0_t6
  let c32_i32_195 : BitVec 32 := 32#32
  let v339 : BitVec 32 := Scalar.muli arg11 c32_i32_195
  let v856 : Index := Scalar.indexCast v339
  let c256_388 : Index := 256#32
  ![v856.toNat, 256]
def k0_off29 (k0_t6 : Fin k0_t6_loop.trips) : Fin 2 → Nat :=
  let c0_i32_179 : BitVec 32 := 0#32
  let c1_i32_181 : BitVec 32 := 1#32
  let arg11 : BitVec 32 := Scf.iv c0_i32_179 c1_i32_181 k0_t6
  let c32_i32_195 : BitVec 32 := 32#32
  let v339 : BitVec 32 := Scalar.muli arg11 c32_i32_195
  let v858 : Index := Scalar.indexCast v339
  let c384_389 : Index := 384#32
  ![v858.toNat, 384]
def k0_off30 (k0_t6 : Fin k0_t6_loop.trips) : Fin 2 → Nat :=
  let c0_i32_179 : BitVec 32 := 0#32
  let c1_i32_181 : BitVec 32 := 1#32
  let arg11 : BitVec 32 := Scf.iv c0_i32_179 c1_i32_181 k0_t6
  let c32_i32_195 : BitVec 32 := 32#32
  let v339 : BitVec 32 := Scalar.muli arg11 c32_i32_195
  let v1027 : Index := Scalar.indexCast v339
  let c0_447 : Index := 0#32
  ![v1027.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x24 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x768x16384 : Shape := ⟨3, ![2, 768, 16384]⟩
abbrev S2 : Shape := ⟨1, ![2]⟩
abbrev S6291456 : Shape := ⟨1, ![6291456]⟩
abbrev S_ : Shape := ⟨0, ![]⟩
abbrev S2x768x4096 : Shape := ⟨3, ![2, 768, 4096]⟩
abbrev S1 : Shape := ⟨1, ![1]⟩
abbrev S1x2x768x4096 : Shape := ⟨4, ![1, 2, 768, 4096]⟩
abbrev S4x2x768x4096 : Shape := ⟨4, ![4, 2, 768, 4096]⟩
abbrev S2x768x4096x4 : Shape := ⟨4, ![2, 768, 4096, 4]⟩
abbrev S4x2x24x32x4096 : Shape := ⟨5, ![4, 2, 24, 32, 4096]⟩
abbrev S4x2x24x4096 : Shape := ⟨4, ![4, 2, 24, 4096]⟩
abbrev S4x2x24x1x4096 : Shape := ⟨5, ![4, 2, 24, 1, 4096]⟩
abbrev S4x2x384x2x4096 : Shape := ⟨5, ![4, 2, 384, 2, 4096]⟩
abbrev S4x2x384x1x4096 : Shape := ⟨5, ![4, 2, 384, 1, 4096]⟩
abbrev S4x2x384x4096 : Shape := ⟨4, ![4, 2, 384, 4096]⟩
abbrev S2x4096x4x384 : Shape := ⟨4, ![2, 4096, 4, 384]⟩
abbrev S2x16384x384 : Shape := ⟨3, ![2, 16384, 384]⟩
abbrev S2x4096x4x24 : Shape := ⟨4, ![2, 4096, 4, 24]⟩
abbrev S2x16384x24 : Shape := ⟨3, ![2, 16384, 24]⟩

abbrev nBuf : Space → Nat
  | .hbm => 240
  | .vmem => 0
  | .smem => 0
  | _ => 0

abbrev hbmTy0_0 (i : Nat) : BufTy := match i % 128 with
  | 0 => ⟨S2x768x16384, .bf16⟩
  | 1 => ⟨S2, .i32⟩
  | 2 => ⟨S6291456, .i32⟩
  | 3 => ⟨S_, .i32⟩
  | 4 => ⟨S6291456, .i32⟩
  | 5 => ⟨S6291456, .i32⟩
  | 6 => ⟨S_, .i32⟩
  | 7 => ⟨S6291456, .i32⟩
  | 8 => ⟨S6291456, .i32⟩
  | 9 => ⟨S2x768x4096, .i32⟩
  | 10 => ⟨S_, .i32⟩
  | 11 => ⟨S2x768x4096, .i32⟩
  | 12 => ⟨S1, .i32⟩
  | 13 => ⟨S_, .i32⟩
  | 14 => ⟨S1, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S2x768x4096, .i32⟩
  | 25 => ⟨S2x768x4096, .i32⟩
  | 26 => ⟨S2x768x4096, .i32⟩
  | 27 => ⟨S2x768x4096, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S2x768x4096, .i32⟩
  | 35 => ⟨S2x768x4096, .i32⟩
  | 36 => ⟨S_, .i32⟩
  | 37 => ⟨S_, .i32⟩
  | 38 => ⟨S_, .i32⟩
  | 39 => ⟨S_, .i32⟩
  | 40 => ⟨S_, .i32⟩
  | 41 => ⟨S2x768x4096, .i32⟩
  | 42 => ⟨S2x768x4096, .i32⟩
  | 43 => ⟨S_, .i32⟩
  | 44 => ⟨S2x768x4096, .i32⟩
  | 45 => ⟨S2x768x4096, .i32⟩
  | 46 => ⟨S2x768x4096, .i32⟩
  | 47 => ⟨S2x768x4096, .i32⟩
  | 48 => ⟨S2x768x4096, .i32⟩
  | 49 => ⟨S2x768x4096, .i32⟩
  | 50 => ⟨S_, .i32⟩
  | 51 => ⟨S2x768x4096, .i32⟩
  | 52 => ⟨S2x768x4096, .i32⟩
  | 53 => ⟨S2x768x4096, .i32⟩
  | 54 => ⟨S2x768x4096, .i32⟩
  | 55 => ⟨S2x768x4096, .i32⟩
  | 56 => ⟨S_, .i32⟩
  | 57 => ⟨S2x768x4096, .i32⟩
  | 58 => ⟨S2x768x4096, .i32⟩
  | 59 => ⟨S2x768x4096, .i32⟩
  | 60 => ⟨S2x768x4096, .i32⟩
  | 61 => ⟨S2x768x4096, .i32⟩
  | 62 => ⟨S_, .i32⟩
  | 63 => ⟨S2x768x4096, .i32⟩
  | 64 => ⟨S2x768x4096, .i32⟩
  | 65 => ⟨S2x768x4096, .i32⟩
  | 66 => ⟨S_, .i32⟩
  | 67 => ⟨S2x768x4096, .i32⟩
  | 68 => ⟨S2x768x4096, .i32⟩
  | 69 => ⟨S2x768x4096, .i32⟩
  | 70 => ⟨S2x768x4096, .i32⟩
  | 71 => ⟨S2x768x4096, .i32⟩
  | 72 => ⟨S_, .i32⟩
  | 73 => ⟨S_, .i32⟩
  | 74 => ⟨S_, .i32⟩
  | 75 => ⟨S_, .i32⟩
  | 76 => ⟨S_, .i32⟩
  | 77 => ⟨S2x768x4096, .i32⟩
  | 78 => ⟨S2x768x4096, .i32⟩
  | 79 => ⟨S_, .i32⟩
  | 80 => ⟨S2x768x4096, .i32⟩
  | 81 => ⟨S2x768x4096, .i32⟩
  | 82 => ⟨S2x768x4096, .i32⟩
  | 83 => ⟨S2x768x4096, .i32⟩
  | 84 => ⟨S2x768x4096, .i32⟩
  | 85 => ⟨S2x768x4096, .i32⟩
  | 86 => ⟨S_, .i32⟩
  | 87 => ⟨S2x768x4096, .i32⟩
  | 88 => ⟨S2x768x4096, .i32⟩
  | 89 => ⟨S2x768x4096, .i32⟩
  | 90 => ⟨S2x768x4096, .i32⟩
  | 91 => ⟨S2x768x4096, .i32⟩
  | 92 => ⟨S_, .i32⟩
  | 93 => ⟨S2x768x4096, .i32⟩
  | 94 => ⟨S2x768x4096, .i32⟩
  | 95 => ⟨S2x768x4096, .i32⟩
  | 96 => ⟨S2x768x4096, .i32⟩
  | 97 => ⟨S2x768x4096, .i32⟩
  | 98 => ⟨S_, .i32⟩
  | 99 => ⟨S2x768x4096, .i32⟩
  | 100 => ⟨S2x768x4096, .i32⟩
  | 101 => ⟨S2x768x4096, .i32⟩
  | 102 => ⟨S_, .i32⟩
  | 103 => ⟨S2x768x4096, .i32⟩
  | 104 => ⟨S2x768x4096, .i32⟩
  | 105 => ⟨S2x768x4096, .i32⟩
  | 106 => ⟨S2x768x4096, .i32⟩
  | 107 => ⟨S2x768x4096, .i32⟩
  | 108 => ⟨S2x768x4096, .i32⟩
  | 109 => ⟨S2x768x4096, .i32⟩
  | 110 => ⟨S2x768x4096, .i32⟩
  | 111 => ⟨S2x768x4096, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S1x2x768x4096, .i32⟩
  | 119 => ⟨S1x2x768x4096, .i32⟩
  | 120 => ⟨S1x2x768x4096, .i32⟩
  | 121 => ⟨S1x2x768x4096, .i32⟩
  | 122 => ⟨S4x2x768x4096, .i32⟩
  | 123 => ⟨S2x768x4096x4, .bf16⟩
  | 124 => ⟨S4x2x768x4096, .bf16⟩
  | 125 => ⟨S4x2x768x4096, .f32⟩
  | 126 => ⟨S4x2x24x32x4096, .f32⟩
  | 127 => ⟨S4x2x24x32x4096, .f32⟩
  | _ => ⟨S2x768x16384, .bf16⟩

abbrev hbmTy0_1 (i : Nat) : BufTy := match i % 128 with
  | 0 => ⟨S_, .f32⟩
  | 1 => ⟨S4x2x24x4096, .f32⟩
  | 2 => ⟨S_, .f32⟩
  | 3 => ⟨S4x2x24x4096, .f32⟩
  | 4 => ⟨S4x2x24x4096, .i1⟩
  | 5 => ⟨S4x2x24x4096, .f32⟩
  | 6 => ⟨S_, .f32⟩
  | 7 => ⟨S_, .f32⟩
  | 8 => ⟨S4x2x24x4096, .f32⟩
  | 9 => ⟨S4x2x24x4096, .f32⟩
  | 10 => ⟨S4x2x24x4096, .f32⟩
  | 11 => ⟨S4x2x24x4096, .i32⟩
  | 12 => ⟨S_, .i32⟩
  | 13 => ⟨S4x2x24x4096, .i32⟩
  | 14 => ⟨S4x2x24x4096, .i32⟩
  | 15 => ⟨S_, .i32⟩
  | 16 => ⟨S_, .i32⟩
  | 17 => ⟨S4x2x24x4096, .i32⟩
  | 18 => ⟨S4x2x24x4096, .i32⟩
  | 19 => ⟨S_, .i32⟩
  | 20 => ⟨S4x2x24x4096, .i32⟩
  | 21 => ⟨S4x2x24x4096, .i32⟩
  | 22 => ⟨S4x2x24x4096, .i8⟩
  | 23 => ⟨S_, .f32⟩
  | 24 => ⟨S4x2x24x4096, .f32⟩
  | 25 => ⟨S4x2x24x4096, .i32⟩
  | 26 => ⟨S4x2x24x4096, .f32⟩
  | 27 => ⟨S4x2x24x4096, .f32⟩
  | 28 => ⟨S4x2x24x1x4096, .f32⟩
  | 29 => ⟨S4x2x24x32x4096, .f32⟩
  | 30 => ⟨S_, .f32⟩
  | 31 => ⟨S4x2x24x32x4096, .f32⟩
  | 32 => ⟨S4x2x24x32x4096, .f32⟩
  | 33 => ⟨S4x2x24x32x4096, .f32⟩
  | 34 => ⟨S4x2x24x32x4096, .f32⟩
  | 35 => ⟨S_, .f32⟩
  | 36 => ⟨S4x2x24x32x4096, .f32⟩
  | 37 => ⟨S4x2x24x32x4096, .f32⟩
  | 38 => ⟨S4x2x24x32x4096, .f32⟩
  | 39 => ⟨S_, .f32⟩
  | 40 => ⟨S4x2x24x32x4096, .f32⟩
  | 41 => ⟨S4x2x24x32x4096, .f32⟩
  | 42 => ⟨S4x2x24x32x4096, .f32⟩
  | 43 => ⟨S_, .f32⟩
  | 44 => ⟨S4x2x24x32x4096, .f32⟩
  | 45 => ⟨S4x2x24x32x4096, .i1⟩
  | 46 => ⟨S_, .f32⟩
  | 47 => ⟨S4x2x24x32x4096, .f32⟩
  | 48 => ⟨S4x2x24x32x4096, .i1⟩
  | 49 => ⟨S_, .f32⟩
  | 50 => ⟨S4x2x24x32x4096, .f32⟩
  | 51 => ⟨S4x2x24x32x4096, .f32⟩
  | 52 => ⟨S_, .f32⟩
  | 53 => ⟨S_, .f32⟩
  | 54 => ⟨S4x2x24x32x4096, .f32⟩
  | 55 => ⟨S4x2x24x32x4096, .f32⟩
  | 56 => ⟨S4x2x24x32x4096, .f32⟩
  | 57 => ⟨S_, .f32⟩
  | 58 => ⟨S4x2x24x32x4096, .f32⟩
  | 59 => ⟨S4x2x24x32x4096, .i1⟩
  | 60 => ⟨S_, .f32⟩
  | 61 => ⟨S4x2x24x32x4096, .f32⟩
  | 62 => ⟨S4x2x24x32x4096, .f32⟩
  | 63 => ⟨S4x2x24x32x4096, .f32⟩
  | 64 => ⟨S_, .f32⟩
  | 65 => ⟨S4x2x24x32x4096, .f32⟩
  | 66 => ⟨S4x2x24x32x4096, .i1⟩
  | 67 => ⟨S_, .f32⟩
  | 68 => ⟨S4x2x24x32x4096, .f32⟩
  | 69 => ⟨S4x2x24x32x4096, .f32⟩
  | 70 => ⟨S4x2x24x32x4096, .f32⟩
  | 71 => ⟨S_, .f32⟩
  | 72 => ⟨S4x2x24x32x4096, .f32⟩
  | 73 => ⟨S4x2x24x32x4096, .f32⟩
  | 74 => ⟨S_, .f32⟩
  | 75 => ⟨S4x2x24x32x4096, .f32⟩
  | 76 => ⟨S4x2x24x32x4096, .f32⟩
  | 77 => ⟨S4x2x24x32x4096, .f32⟩
  | 78 => ⟨S4x2x24x32x4096, .f32⟩
  | 79 => ⟨S4x2x24x32x4096, .i32⟩
  | 80 => ⟨S_, .i32⟩
  | 81 => ⟨S4x2x24x32x4096, .i32⟩
  | 82 => ⟨S4x2x24x32x4096, .i32⟩
  | 83 => ⟨S4x2x24x32x4096, .f32⟩
  | 84 => ⟨S_, .f32⟩
  | 85 => ⟨S4x2x24x32x4096, .f32⟩
  | 86 => ⟨S4x2x24x32x4096, .f32⟩
  | 87 => ⟨S4x2x24x32x4096, .i1⟩
  | 88 => ⟨S4x2x24x32x4096, .f32⟩
  | 89 => ⟨S4x2x24x32x4096, .f32⟩
  | 90 => ⟨S4x2x24x32x4096, .i32⟩
  | 91 => ⟨S_, .f32⟩
  | 92 => ⟨S4x2x24x32x4096, .f32⟩
  | 93 => ⟨S4x2x24x32x4096, .i1⟩
  | 94 => ⟨S_, .i32⟩
  | 95 => ⟨S4x2x24x32x4096, .i32⟩
  | 96 => ⟨S4x2x24x32x4096, .i32⟩
  | 97 => ⟨S4x2x24x32x4096, .i32⟩
  | 98 => ⟨S4x2x384x2x4096, .i32⟩
  | 99 => ⟨S4x2x384x1x4096, .i32⟩
  | 100 => ⟨S4x2x384x4096, .i32⟩
  | 101 => ⟨S4x2x384x1x4096, .i32⟩
  | 102 => ⟨S4x2x384x4096, .i32⟩
  | 103 => ⟨S_, .i32⟩
  | 104 => ⟨S4x2x384x4096, .i32⟩
  | 105 => ⟨S4x2x384x4096, .i32⟩
  | 106 => ⟨S4x2x384x4096, .i32⟩
  | 107 => ⟨S4x2x384x4096, .i8⟩
  | 108 => ⟨S2x4096x4x384, .i8⟩
  | 109 => ⟨S2x16384x384, .i8⟩
  | 110 => ⟨S2x4096x4x24, .i8⟩
  | 111 => ⟨S2x16384x24, .i8⟩
  | _ => ⟨S2x768x16384, .bf16⟩

abbrev hbmTy (i : Nat) : BufTy := match i / 128 with
  | 0 => hbmTy0_0 i
  | 1 => hbmTy0_1 i
  | _ => ⟨S2x768x16384, .bf16⟩

abbrev bufTy : (tb : Table) → Fin (tcTables nBuf tb) → BufTy
  | .hbm, ⟨i, _⟩ => hbmTy i
  | _, _ => ⟨S2x768x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_c_3 : Ref sig .tc := ⟨.hbm, 17, rfl⟩
abbrev main_c_4 : Ref sig .tc := ⟨.hbm, 18, rfl⟩
abbrev main_c_5 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_v11_7 : Ref sig .tc := ⟨.hbm, 27, rfl⟩
abbrev main_v11_8 : Ref sig .tc := ⟨.hbm, 28, rfl⟩
abbrev main_v11_9 : Ref sig .tc := ⟨.hbm, 29, rfl⟩
abbrev main_while0c_c_39 : Ref sig .tc := ⟨.hbm, 30, rfl⟩
abbrev main_while0c_v105 : Ref sig .tc := ⟨.hbm, 31, rfl⟩
abbrev main_while0b_c_39 : Ref sig .tc := ⟨.hbm, 32, rfl⟩
abbrev main_while0b_v105 : Ref sig .tc := ⟨.hbm, 33, rfl⟩
abbrev main_while0b_v106 : Ref sig .tc := ⟨.hbm, 34, rfl⟩
abbrev main_while0b_v107 : Ref sig .tc := ⟨.hbm, 35, rfl⟩
abbrev main_while0b_c_40 : Ref sig .tc := ⟨.hbm, 36, rfl⟩
abbrev main_while0b_v108 : Ref sig .tc := ⟨.hbm, 37, rfl⟩
abbrev main_while0b_c_41 : Ref sig .tc := ⟨.hbm, 38, rfl⟩
abbrev main_while0b_v109 : Ref sig .tc := ⟨.hbm, 39, rfl⟩
abbrev main_while0b_c_42 : Ref sig .tc := ⟨.hbm, 40, rfl⟩
abbrev main_while0b_v110 : Ref sig .tc := ⟨.hbm, 41, rfl⟩
abbrev main_while0b_v111 : Ref sig .tc := ⟨.hbm, 42, rfl⟩
abbrev main_while0b_c_43 : Ref sig .tc := ⟨.hbm, 43, rfl⟩
abbrev main_while0b_v112 : Ref sig .tc := ⟨.hbm, 44, rfl⟩
abbrev main_while0b_v113 : Ref sig .tc := ⟨.hbm, 45, rfl⟩
abbrev main_while0b_v114 : Ref sig .tc := ⟨.hbm, 46, rfl⟩
abbrev main_while0b_v115 : Ref sig .tc := ⟨.hbm, 47, rfl⟩
abbrev main_while0b_v116 : Ref sig .tc := ⟨.hbm, 48, rfl⟩
abbrev main_while0b_v117 : Ref sig .tc := ⟨.hbm, 49, rfl⟩
abbrev main_while0b_c_44 : Ref sig .tc := ⟨.hbm, 50, rfl⟩
abbrev main_while0b_v118 : Ref sig .tc := ⟨.hbm, 51, rfl⟩
abbrev main_while0b_v119 : Ref sig .tc := ⟨.hbm, 52, rfl⟩
abbrev main_while0b_v120 : Ref sig .tc := ⟨.hbm, 53, rfl⟩
abbrev main_while0b_v121 : Ref sig .tc := ⟨.hbm, 54, rfl⟩
abbrev main_while0b_v122 : Ref sig .tc := ⟨.hbm, 55, rfl⟩
abbrev main_while0b_c_45 : Ref sig .tc := ⟨.hbm, 56, rfl⟩
abbrev main_while0b_v123 : Ref sig .tc := ⟨.hbm, 57, rfl⟩
abbrev main_while0b_v124 : Ref sig .tc := ⟨.hbm, 58, rfl⟩
abbrev main_while0b_v125 : Ref sig .tc := ⟨.hbm, 59, rfl⟩
abbrev main_while0b_v126 : Ref sig .tc := ⟨.hbm, 60, rfl⟩
abbrev main_while0b_v127 : Ref sig .tc := ⟨.hbm, 61, rfl⟩
abbrev main_while0b_c_46 : Ref sig .tc := ⟨.hbm, 62, rfl⟩
abbrev main_while0b_v128 : Ref sig .tc := ⟨.hbm, 63, rfl⟩
abbrev main_while0b_v129 : Ref sig .tc := ⟨.hbm, 64, rfl⟩
abbrev main_while0b_v130 : Ref sig .tc := ⟨.hbm, 65, rfl⟩
abbrev main_while0b_c_47 : Ref sig .tc := ⟨.hbm, 66, rfl⟩
abbrev main_while0b_v131 : Ref sig .tc := ⟨.hbm, 67, rfl⟩
abbrev main_while0b_v132 : Ref sig .tc := ⟨.hbm, 68, rfl⟩
abbrev main_while0b_v133 : Ref sig .tc := ⟨.hbm, 69, rfl⟩
abbrev main_while0b_v134 : Ref sig .tc := ⟨.hbm, 70, rfl⟩
abbrev main_while0b_v135 : Ref sig .tc := ⟨.hbm, 71, rfl⟩
abbrev main_while0b_c_48 : Ref sig .tc := ⟨.hbm, 72, rfl⟩
abbrev main_while0b_v136 : Ref sig .tc := ⟨.hbm, 73, rfl⟩
abbrev main_while0b_c_49 : Ref sig .tc := ⟨.hbm, 74, rfl⟩
abbrev main_while0b_v137 : Ref sig .tc := ⟨.hbm, 75, rfl⟩
abbrev main_while0b_c_50 : Ref sig .tc := ⟨.hbm, 76, rfl⟩
abbrev main_while0b_v138 : Ref sig .tc := ⟨.hbm, 77, rfl⟩
abbrev main_while0b_v139 : Ref sig .tc := ⟨.hbm, 78, rfl⟩
abbrev main_while0b_c_51 : Ref sig .tc := ⟨.hbm, 79, rfl⟩
abbrev main_while0b_v140 : Ref sig .tc := ⟨.hbm, 80, rfl⟩
abbrev main_while0b_v141 : Ref sig .tc := ⟨.hbm, 81, rfl⟩
abbrev main_while0b_v142 : Ref sig .tc := ⟨.hbm, 82, rfl⟩
abbrev main_while0b_v143 : Ref sig .tc := ⟨.hbm, 83, rfl⟩
abbrev main_while0b_v144 : Ref sig .tc := ⟨.hbm, 84, rfl⟩
abbrev main_while0b_v145 : Ref sig .tc := ⟨.hbm, 85, rfl⟩
abbrev main_while0b_c_52 : Ref sig .tc := ⟨.hbm, 86, rfl⟩
abbrev main_while0b_v146 : Ref sig .tc := ⟨.hbm, 87, rfl⟩
abbrev main_while0b_v147 : Ref sig .tc := ⟨.hbm, 88, rfl⟩
abbrev main_while0b_v148 : Ref sig .tc := ⟨.hbm, 89, rfl⟩
abbrev main_while0b_v149 : Ref sig .tc := ⟨.hbm, 90, rfl⟩
abbrev main_while0b_v150 : Ref sig .tc := ⟨.hbm, 91, rfl⟩
abbrev main_while0b_c_53 : Ref sig .tc := ⟨.hbm, 92, rfl⟩
abbrev main_while0b_v151 : Ref sig .tc := ⟨.hbm, 93, rfl⟩
abbrev main_while0b_v152 : Ref sig .tc := ⟨.hbm, 94, rfl⟩
abbrev main_while0b_v153 : Ref sig .tc := ⟨.hbm, 95, rfl⟩
abbrev main_while0b_v154 : Ref sig .tc := ⟨.hbm, 96, rfl⟩
abbrev main_while0b_v155 : Ref sig .tc := ⟨.hbm, 97, rfl⟩
abbrev main_while0b_c_54 : Ref sig .tc := ⟨.hbm, 98, rfl⟩
abbrev main_while0b_v156 : Ref sig .tc := ⟨.hbm, 99, rfl⟩
abbrev main_while0b_v157 : Ref sig .tc := ⟨.hbm, 100, rfl⟩
abbrev main_while0b_v158 : Ref sig .tc := ⟨.hbm, 101, rfl⟩
abbrev main_while0b_c_55 : Ref sig .tc := ⟨.hbm, 102, rfl⟩
abbrev main_while0b_v159 : Ref sig .tc := ⟨.hbm, 103, rfl⟩
abbrev main_while0b_v160 : Ref sig .tc := ⟨.hbm, 104, rfl⟩
abbrev main_while0b_v161 : Ref sig .tc := ⟨.hbm, 105, rfl⟩
abbrev main_while0b_v162 : Ref sig .tc := ⟨.hbm, 106, rfl⟩
abbrev main_while0b_v163 : Ref sig .tc := ⟨.hbm, 107, rfl⟩
abbrev main_while0b_v164 : Ref sig .tc := ⟨.hbm, 108, rfl⟩
abbrev main_while0b_v165 : Ref sig .tc := ⟨.hbm, 109, rfl⟩
abbrev main_while0b_v166 : Ref sig .tc := ⟨.hbm, 110, rfl⟩
abbrev main_while0b_v167 : Ref sig .tc := ⟨.hbm, 111, rfl⟩
abbrev main_while0b_c_56 : Ref sig .tc := ⟨.hbm, 112, rfl⟩
abbrev main_while0b_v168 : Ref sig .tc := ⟨.hbm, 113, rfl⟩
abbrev main_while0b_c_57 : Ref sig .tc := ⟨.hbm, 114, rfl⟩
abbrev main_while0b_v169 : Ref sig .tc := ⟨.hbm, 115, rfl⟩
abbrev main_while0b_c_58 : Ref sig .tc := ⟨.hbm, 116, rfl⟩
abbrev main_while0b_v170 : Ref sig .tc := ⟨.hbm, 117, rfl⟩
abbrev main_v12 : Ref sig .tc := ⟨.hbm, 118, rfl⟩
abbrev main_v13 : Ref sig .tc := ⟨.hbm, 119, rfl⟩
abbrev main_v14 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_v18 : Ref sig .tc := ⟨.hbm, 124, rfl⟩
abbrev main_v19 : Ref sig .tc := ⟨.hbm, 125, rfl⟩
abbrev main_v20 : Ref sig .tc := ⟨.hbm, 126, rfl⟩
abbrev main_v21 : Ref sig .tc := ⟨.hbm, 127, rfl⟩
abbrev main_cst : Ref sig .tc := ⟨.hbm, 128, rfl⟩
abbrev main_v22 : Ref sig .tc := ⟨.hbm, 129, rfl⟩
abbrev main_cst_6 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_cst_7 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_v30 : Ref sig .tc := ⟨.hbm, 139, rfl⟩
abbrev main_c_8 : Ref sig .tc := ⟨.hbm, 140, rfl⟩
abbrev main_v31 : Ref sig .tc := ⟨.hbm, 141, rfl⟩
abbrev main_v32 : Ref sig .tc := ⟨.hbm, 142, rfl⟩
abbrev main_c_9 : Ref sig .tc := ⟨.hbm, 143, rfl⟩
abbrev main_call0_v0 : Ref sig .tc := ⟨.hbm, 144, rfl⟩
abbrev main_call0_v1 : Ref sig .tc := ⟨.hbm, 145, rfl⟩
abbrev main_v33 : Ref sig .tc := ⟨.hbm, 146, rfl⟩
abbrev main_c_10 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_cst_11 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_cst_12 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_cst_13 : Ref sig .tc := ⟨.hbm, 163, rfl⟩
abbrev main_v47 : Ref sig .tc := ⟨.hbm, 164, rfl⟩
abbrev main_v48 : Ref sig .tc := ⟨.hbm, 165, rfl⟩
abbrev main_v49 : Ref sig .tc := ⟨.hbm, 166, rfl⟩
abbrev main_cst_14 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_cst_15 : Ref sig .tc := ⟨.hbm, 171, rfl⟩
abbrev main_v53 : Ref sig .tc := ⟨.hbm, 172, rfl⟩
abbrev main_v54 : Ref sig .tc := ⟨.hbm, 173, rfl⟩
abbrev main_cst_16 : Ref sig .tc := ⟨.hbm, 174, rfl⟩
abbrev main_v55 : Ref sig .tc := ⟨.hbm, 175, rfl⟩
abbrev main_v56 : Ref sig .tc := ⟨.hbm, 176, rfl⟩
abbrev main_cst_17 : Ref sig .tc := ⟨.hbm, 177, rfl⟩
abbrev main_v57 : Ref sig .tc := ⟨.hbm, 178, rfl⟩
abbrev main_v58 : Ref sig .tc := ⟨.hbm, 179, rfl⟩
abbrev main_cst_18 : Ref sig .tc := ⟨.hbm, 180, rfl⟩
abbrev main_call1_v0 : Ref sig .tc := ⟨.hbm, 181, rfl⟩
abbrev main_call1_v1 : Ref sig .tc := ⟨.hbm, 182, rfl⟩
abbrev main_v59 : Ref sig .tc := ⟨.hbm, 183, rfl⟩
abbrev main_v60 : Ref sig .tc := ⟨.hbm, 184, rfl⟩
abbrev main_cst_19 : Ref sig .tc := ⟨.hbm, 185, rfl⟩
abbrev main_v61 : Ref sig .tc := ⟨.hbm, 186, rfl⟩
abbrev main_v62 : Ref sig .tc := ⟨.hbm, 187, rfl⟩
abbrev main_cst_20 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_cst_21 : Ref sig .tc := ⟨.hbm, 192, rfl⟩
abbrev main_v66 : Ref sig .tc := ⟨.hbm, 193, rfl⟩
abbrev main_v67 : Ref sig .tc := ⟨.hbm, 194, rfl⟩
abbrev main_cst_22 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩
abbrev main_cst_23 : Ref sig .tc := ⟨.hbm, 199, rfl⟩
abbrev main_v71 : Ref sig .tc := ⟨.hbm, 200, rfl⟩
abbrev main_v72 : Ref sig .tc := ⟨.hbm, 201, rfl⟩
abbrev main_cst_24 : Ref sig .tc := ⟨.hbm, 202, rfl⟩
abbrev main_v73 : Ref sig .tc := ⟨.hbm, 203, rfl⟩
abbrev main_v74 : Ref sig .tc := ⟨.hbm, 204, rfl⟩
abbrev main_v75 : Ref sig .tc := ⟨.hbm, 205, rfl⟩
abbrev main_v76 : Ref sig .tc := ⟨.hbm, 206, rfl⟩
abbrev main_v77 : Ref sig .tc := ⟨.hbm, 207, rfl⟩
abbrev main_c_25 : Ref sig .tc := ⟨.hbm, 208, rfl⟩
abbrev main_v78 : Ref sig .tc := ⟨.hbm, 209, rfl⟩
abbrev main_v79 : Ref sig .tc := ⟨.hbm, 210, rfl⟩
abbrev main_v80 : Ref sig .tc := ⟨.hbm, 211, rfl⟩
abbrev main_cst_26 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_cst_27 : Ref sig .tc := ⟨.hbm, 219, rfl⟩
abbrev main_v87 : Ref sig .tc := ⟨.hbm, 220, rfl⟩
abbrev main_v88 : Ref sig .tc := ⟨.hbm, 221, rfl⟩
abbrev main_c_28 : Ref sig .tc := ⟨.hbm, 222, rfl⟩
abbrev main_v89 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩
abbrev main_v96 : Ref sig .tc := ⟨.hbm, 230, rfl⟩
abbrev main_c_29 : Ref sig .tc := ⟨.hbm, 231, rfl⟩
abbrev main_v97 : Ref sig .tc := ⟨.hbm, 232, rfl⟩
abbrev main_v98 : Ref sig .tc := ⟨.hbm, 233, rfl⟩
abbrev main_v99 : Ref sig .tc := ⟨.hbm, 234, rfl⟩
abbrev main_v100 : Ref sig .tc := ⟨.hbm, 235, rfl⟩
abbrev main_v101 : Ref sig .tc := ⟨.hbm, 236, rfl⟩
abbrev main_v102 : Ref sig .tc := ⟨.hbm, 237, rfl⟩
abbrev main_v103 : Ref sig .tc := ⟨.hbm, 238, rfl⟩
abbrev main_v104 : Ref sig .tc := ⟨.hbm, 239, rfl⟩

abbrev nD : Nat := 1
abbrev τ : Topo := Topo.v7x

variable {F : FTy → Type} [FloatOps F]

abbrev main_while0_count : Scf.Loop 32 := ⟨0#32, 10#32, 1#32⟩
-- ==== Proof.KernelFrame.lean ====
/- THE KERNEL'S FRAME: every run ends, with the argument arrays unchanged and every semaphore at zero. Nothing is said here of what
   the kernel leaves in its results, so each result block is handed back at some contents (`sl_exec` finds them) and the launch is
   run with the two result windows forgotten. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

-- rectangles of the blocks' extents: the elaborator recurses along the long axes
set_option maxRecDepth 16384

noncomputable section

namespace Cert.Kernel.Unchanged

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body
/-! ## The kernel body on any staging memrefs: a subtype the run finds -/

/-- Each window's current staging memref at point `t`, spelled as the pipeline passes it (`bodyAt0`), and its wholeness. -/
abbrev ms0_0 (t : Fin cfg0.N) : Memref sig .tc .smem S2 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x384 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x24 .i8 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S24x512 .f32 := Memref.whole cc0_scratch0
abbrev scM0_1 : Memref sig .tc .vmem S128x512 .f32 := Memref.whole cc0_scratch1
abbrev scM0_2 : Memref sig .tc .vmem S128x128 .i32 := Memref.whole cc0_scratch2
abbrev scM0_3 : Memref sig .tc .vmem S384x128 .i32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

-- (the run's proof term is large: checking it walks past the default budget)
set_option maxHeartbeats 1232000 in
/-- The body's triple: on whole staging memrefs — the inputs' at their contents,
    the FORGOTTEN outputs' (3, 4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .smem S2 .i32) (harg2 : arg2.IsWhole) (arg3 : Memref sig .tc .vmem S512x512 .bf16) (harg3 : arg3.IsWhole) (arg4 : Memref sig .tc .vmem S1x768x512 .bf16) (harg4 : arg4.IsWhole) (arg5 : Memref sig .tc .vmem S1x512x384 .i8) (harg5 : arg5.IsWhole) (arg6 : Memref sig .tc .vmem S1x512x24 .i8) (harg6 : arg6.IsWhole) (arg7 : Memref sig .tc .vmem S24x512 .f32) (harg7 : arg7.IsWhole) (arg8 : Memref sig .tc .vmem S128x512 .f32) (harg8 : arg8.IsWhole) (arg9 : Memref sig .tc .vmem S128x128 .i32) (harg9 : arg9.IsWhole) (arg10 : Memref sig .tc .vmem S384x128 .i32) (harg10 : arg10.IsWhole)
    (x0 : Vec F S2 .i32) (x1 : Vec F S512x512 .bf16) (x2 : Vec F S1x768x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    intro E K
    simp only [cc0__body_eq_skeleton]; unfold cc0__body_skel
    simp only [k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Body

section Launch
variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 2 rfl).trans ((hA c 2).trans (V_main_arg0 m c)),
      (Pipeline.RDat.FramePost.arr_in h c 0 rfl).trans ((hA c 0).trans (V_main_arg1 m c))⟩) h

/-! ## The pipeline's proof data -/

/-- The output windows this certificate FORGETS (3, 4): nothing reads what the kernel leaves in them, so nothing
    of it is named (Lib/Pipeline/Dat.lean `Dat.toRForget`). -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  unchanged_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Launch

end Cert.Kernel.Unchanged

end
-- ==== Proof.Trip.lean ====
/- ONE TRIP OF THE KERNEL'S COUNTED LOOPS, AS A VECTOR FUNCTION. The body has six counted loops of four trips each, one per
   128 sequence rows; each trip turns 32 rows of products into 32 rows of code words. The six loops' regions print
   as six runs of operations that differ in one constant only (the chunk's first row), so one function states all six. -/
module

public import proofs.«01_k».proof.Proof.Gen.KernelIdeal.Loops
public import Idealize.ShloMosaic.Lib.Pipeline.FrameBody

@[expose] public section

noncomputable section

namespace Cert.KernelIdeal.Body

open Idealize.ShloMosaic Idealize.ShloMosaic.TcCoe Cert.KernelIdeal Cert.KernelIdeal.Gen

variable {F : FTy → Type} [FloatOps F]

/-! ## The generator -/

/-- The high word of `a * 0xD2511F53`. -/
def mulHi0 {s : Shape} (a : IVec s 32) : IVec s 32 :=
  addi (muli (shrui a (broadcast s 16#32)) (broadcast s 53841#32))
    (shrui (addi (muli (shrui a (broadcast s 16#32)) (broadcast s 8019#32))
      (addi (muli (andi a (broadcast s 65535#32)) (broadcast s 53841#32))
        (shrui (muli (andi a (broadcast s 65535#32)) (broadcast s 8019#32)) (broadcast s 16#32)))) (broadcast s 16#32))

/-- Its low word. -/
def mulLo0 {s : Shape} (a : IVec s 32) : IVec s 32 := muli a (broadcast s 3528531795#32)

/-- The high word of `a * 0xCD9E8D57`, through the half of that constant. -/
def mulHi1 {s : Shape} (a : IVec s 32) : IVec s 32 :=
  addi (muli (shrui a (broadcast s 16#32)) (broadcast s 52638#32))
    (shrui (addi (muli (shrui a (broadcast s 16#32)) (broadcast s 18091#32))
      (addi (muli (andi a (broadcast s 65535#32)) (broadcast s 26319#32))
        (shrui (addi (shrui a (broadcast s 1#32)) (muli (andi a (broadcast s 65535#32)) (broadcast s 18091#32)))
          (broadcast s 16#32)))) (broadcast s 15#32))

/-- Its low word. -/
def mulLo1 {s : Shape} (a : IVec s 32) : IVec s 32 := muli a (broadcast s 3449720151#32)

/-- The two keys after `n` bumps. -/
def key0 (k : BitVec 32) : ℕ → BitVec 32
  | 0 => k
  | n + 1 => Scalar.addi (key0 k n) 2654435769#32
def key1 (k : BitVec 32) : ℕ → BitVec 32
  | 0 => k
  | n + 1 => Scalar.addi (key1 k n) 3144134277#32

/-- Four words of the generator's state, one vector each. -/
structure Words where
  w0 : IVec S32x128 32
  w1 : IVec S32x128 32
  w2 : IVec S32x128 32
  w3 : IVec S32x128 32

/-- The state after three rounds from the counter `(n, 0, 0, 0)`: up to there some words are zero or one row. -/
def third (n : IVec S32x128 32) (k0 k1 : BitVec 32) : Words :=
  let c2 := xori (mulHi0 n) (broadcast S32x128 k1)
  let z : IVec S1x128 32 := addi (broadcast S1x128 k0) (broadcast S1x128 0#32)
  let d0 := xori (mulHi1 c2) (broadcast S32x128 (key0 k0 1))
  let d2 := xori (mulLo0 n) (broadcastTo S32x128 (xori (mulHi0 z) (broadcast S1x128 (key1 k1 1))) broadcasts_S1x128_S32x128)
  ⟨xori (xori (mulHi1 d2) (mulLo1 c2)) (broadcast S32x128 (key0 k0 2)), mulLo1 d2,
    xori (mulHi0 d0) (broadcastTo S32x128 (xori (mulLo0 z) (broadcast S1x128 (key1 k1 2))) broadcasts_S1x128_S32x128),
    mulLo0 d0⟩

/-- One of the later rounds, with its two keys. -/
def round (w : Words) (k0 k1 : BitVec 32) : Words :=
  ⟨xori (xori (mulHi1 w.w2) w.w1) (broadcast S32x128 k0), mulLo1 w.w2,
    xori (mulHi0 w.w0) (xori w.w3 (broadcast S32x128 k1)), mulLo0 w.w0⟩

/-- All ten rounds. -/
def philox (n : IVec S32x128 32) (k0 k1 : BitVec 32) : Words :=
  round (round (round (round (round (round (round (third n k0 k1) (key0 k0 3) (key1 k1 3)) (key0 k0 4) (key1 k1 4))
    (key0 k0 5) (key1 k1 5)) (key0 k0 6) (key1 k1 6)) (key0 k0 7) (key1 k1 7)) (key0 k0 8) (key1 k1 8)) (key0 k0 9) (key1 k1 9)

/-! ## One code -/

/-- The kernel's stand-in for twice-shifted bits of a float from `[2^25, 2^28)`. -/
def wordShl2 (v : FVec F S32x128 .f32) : IVec S32x128 32 :=
  addi (fptosi 32 (ceil (mulf v
    (select (cmpf .olt v (broadcast S32x128 (Scalar.ofBits (F := F) .f32 0x4C800000#32)))
      (broadcast S32x128 (Scalar.ofBits (F := F) .f32 0x3F800000#32))
      (select (cmpf .olt v (broadcast S32x128 (Scalar.ofBits (F := F) .f32 0x4D000000#32)))
        (broadcast S32x128 (Scalar.ofBits (F := F) .f32 0x3F000000#32))
        (broadcast S32x128 (Scalar.ofBits (F := F) .f32 0x3E800000#32)))))))
    (select (cmpf .olt v (broadcast S32x128 (Scalar.ofBits (F := F) .f32 0x4C800000#32)))
      (broadcast S32x128 771751936#32)
      (select (cmpf .olt v (broadcast S32x128 (Scalar.ofBits (F := F) .f32 0x4D000000#32)))
        (broadcast S32x128 805306368#32) (broadcast S32x128 838860800#32)))

/-- The negated code of a product `y` under the random word `w`. -/
def negCode (y : FVec F S32x128 .f32) (w : IVec S32x128 32) : IVec S32x128 32 :=
  shrsi (subi (subi (shrui w (broadcast S32x128 8#32))
      (fptosi 32 (roundeven (ceil (minimumf (absf y) (broadcast S32x128 (Scalar.ofBits (F := F) .f32 0x4C000000#32)))))))
    (wordShl2 (maximumf (absf y) (broadcast S32x128 (Scalar.ofBits (F := F) .f32 0x4C000000#32))))) (broadcast S32x128 24#32)

/-- One where a product is negative. -/
def signWord (y : FVec F S32x128 .f32) : IVec S32x128 32 :=
  extui 32 (cmpf .olt y (broadcast S32x128 (Scalar.ofBits (F := F) .f32 0x00000000#32))) natLt_1_32

/-- Four codes with their signs, one per byte of a word. -/
def packed (y0 y1 y2 y3 : FVec F S32x128 .f32) (w : Words) : IVec S32x128 32 :=
  shapeCast S32x128 (ori
    (andi (subi (broadcast S32x128 134744072#32)
      (andi (packElementwiseInt 8 ![negCode y0 w.w0, negCode y1 w.w1, negCode y2 w.w2, negCode y3 w.w3])
        (broadcast S32x128 117901063#32))) (broadcast S32x128 117901063#32))
    (shli (packElementwiseInt 8 ![signWord y0, signWord y1, signWord y2, signWord y3]) (broadcast S32x128 3#32)))
    shapeCasts_S32x128_S32x128

/-- The counter of a trip: `row` is the trip's first sequence row within the array. -/
def counter (base : IVec S32x128 32) (row arg1 : BitVec 32) : IVec S32x128 32 :=
  addi base (broadcast S32x128 (Scalar.addi (Scalar.muli row 4096#32) (Scalar.muli arg1 128#32)))

/-- The trip's code words. -/
def trip (base : IVec S32x128 32) (row arg1 k0 k1 : BitVec 32) (y0 y1 y2 y3 : FVec F S32x128 .f32) : IVec S32x128 32 :=
  packed y0 y1 y2 y3 (philox (counter base row arg1) k0 k1)

/-! ## The six loops' trips -/

variable (𝒱 : Variants) (c : Dev nD) (bd : Option 𝒱.V) (i : grid0.Coords)
  (arg2 : Memref sig .tc .smem S2 .i32) (harg2 : arg2.IsWhole)
  (arg3 : Memref sig .tc .vmem S512x512 .bf16) (harg3 : arg3.IsWhole)
  (arg4 : Memref sig .tc .vmem S1x768x512 .bf16) (harg4 : arg4.IsWhole)
  (arg5 : Memref sig .tc .vmem S1x512x384 .i8) (harg5 : arg5.IsWhole)
  (arg6 : Memref sig .tc .vmem S1x512x24 .i8) (harg6 : arg6.IsWhole)
  (arg7 : Memref sig .tc .vmem S24x512 .f32) (harg7 : arg7.IsWhole)
  (arg8 : Memref sig .tc .vmem S128x512 .f32) (harg8 : arg8.IsWhole)
  (arg9 : Memref sig .tc .vmem S128x128 .i32) (harg9 : arg9.IsWhole)
  (arg10 : Memref sig .tc .vmem S384x128 .i32) (harg10 : arg10.IsWhole)
  (arg0 : BitVec 32)
  (arg1 : BitVec 32) (v0 : Elt F .i32) (v1 : Elt F .i32) (v92 : IVec S32x128 32)

/-- A trip of loop 1 writes one piece, the trip function of its four loads. -/
theorem tripL1_eq (v117 : FVec F S128x512 .bf16) (X_arg8 : BufTy.Contents (Elt F) arg8.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg0 arg1 v0 v1 v92 v117 X_arg8 k
      = [⟨Rect.unit (s := S128x128) (k0_off5 k) S32x128.size (k0_off5_inb k),
        trip v92 (Scalar.addi (Scalar.addi (Scalar.muli arg0 768#32) 0#32) (Scalar.muli (Scf.iv 0#32 1#32 k) 32#32)) arg1 v0 v1
          (arg8.view.readAt (Elt F) (Rect.unit (s := S128x512) (k0_off1 k) S32x128.size (k0_off1_inb k)).toLoadRect X_arg8)
          (arg8.view.readAt (Elt F) (Rect.unit (s := S128x512) (k0_off2 k) S32x128.size (k0_off2_inb k)).toLoadRect X_arg8)
          (arg8.view.readAt (Elt F) (Rect.unit (s := S128x512) (k0_off3 k) S32x128.size (k0_off3_inb k)).toLoadRect X_arg8)
          (arg8.view.readAt (Elt F) (Rect.unit (s := S128x512) (k0_off4 k) S32x128.size (k0_off4_inb k)).toLoadRect X_arg8)⟩] := by
  unfold tripL_k0_t1 trip_k0_t1; rfl

/-- A trip of loop 2 writes one piece, the trip function of its four loads. -/
theorem tripL2_eq (v138 : FVec F S32x512 .bf16) (v144 : FVec F S32x512 .bf16) (v146 : FVec F S1x512 .bf16) (X_arg8 : BufTy.Contents (Elt F) arg8.view.ty) (k : Fin k0_t2_loop.trips) :
    tripL_k0_t2 (F := F) 𝒱 c bd i arg2 harg2 arg3 harg3 arg4 harg4 arg5 harg5 arg6 harg6 arg7 harg7 arg8 harg8 arg9 harg9 arg10 harg10 arg0 arg1 v0 v1 v92 v138 v144 v146 X_arg8 k
      = [⟨Rect.unit (s := S128x128) (k0_off10 k) S32x128.size (k0_off10_inb k),
        trip v92 (Scalar.addi (Scalar.addi (Scalar.muli arg0 768#32) 128#32) (Scalar.muli (Scf.iv 0#32 1#32 k) 32#32)) arg1 v0 v1
          (arg8.view.readAt (Elt F) (Rect.unit (s := S128x512) (k0_off6 k) S32x128.size (k0_off6_inb k)).toLoadRect X_arg8)
          (arg8.view.readAt (Elt F) (Rect.unit (s := S128x512) (k0_off7 k) S32x128.size (k0_off7_inb k)).toLoadRect X_arg8)
          (arg8.view.readAt (Elt F) (Rect.unit (s := S128x512) (k0_off8 k) S32x128.size (k0_off8_inb k)).toLoadRect X_arg8)
          (arg8.view.readAt (Elt F) (Rect.unit (s := S128x512) (k0_off9 k) S32x128.size (k0_off9_inb k)).toLoadRect X_arg8)⟩] := by
  unfold tripL_k0_t2 trip_k0_t2; rfl

/-- A trip of loop 3 writes one piece, the trip function of its four loads. -/
theorem tripL3_eq (v174 : FVec F S1x512 .bf16) (v176 : FVec F S32x512 .bf16) (X_arg8 : BufTy.Contents (Elt F) arg8.view.ty) (k : Fin k0_t3_loop.trips) :
    tripL_k0_t3 (F := F) 𝒱 c bd i arg2 harg2 arg3 harg3 arg4 harg4 arg5 harg5 arg6 harg6 arg7 harg7 arg8 harg8 arg9 harg9 arg10 harg10 arg0 arg1 v0 v1 v92 v174 v176 X_arg8 k
      = [⟨Rect.unit (s := S128x128) (k0_off15 k) S32x128.size (k0_off15_inb k),
        trip v92 (Scalar.addi (Scalar.addi (Scalar.muli arg0 768#32) 256#32) (Scalar.muli (Scf.iv 0#32 1#32 k) 32#32)) arg1 v0 v1
          (arg8.view.readAt (Elt F) (Rect.unit (s := S128x512) (k0_off11 k) S32x128.size (k0_off11_inb k)).toLoadRect X_arg8)
          (arg8.view.readAt (Elt F) (Rect.unit (s := S128x512) (k0_off12 k) S32x128.size (k0_off12_inb k)).toLoadRect X_arg8)
          (arg8.view.readAt (Elt F) (Rect.unit (s := S128x512) (k0_off13 k) S32x128.size (k0_off13_inb k)).toLoadRect X_arg8)
          (arg8.view.readAt (Elt F) (Rect.unit (s := S128x512) (k0_off14 k) S32x128.size (k0_off14_inb k)).toLoadRect X_arg8)⟩] := by
  unfold tripL_k0_t3 trip_k0_t3; rfl

/-- A trip of loop 4 writes one piece, the trip function of its four loads. -/
theorem tripL4_eq (v237 : FVec F S128x512 .bf16) (v239 : FVec F S512x512 .bf16) (cst_120 : FVec F S128x512 .f32) (X_arg8 : BufTy.Contents (Elt F) arg8.view.ty) (k : Fin k0_t4_loop.trips) :
    tripL_k0_t4 (F := F) 𝒱 c bd i arg2 harg2 arg3 harg3 arg4 harg4 arg5 harg5 arg6 harg6 arg7 harg7 arg8 harg8 arg9 harg9 arg10 harg10 arg0 arg1 v0 v1 v92 v237 v239 cst_120 X_arg8 k
      = [⟨Rect.unit (s := S128x128) (k0_off20 k) S32x128.size (k0_off20_inb k),
        trip v92 (Scalar.addi (Scalar.addi (Scalar.muli arg0 768#32) 384#32) (Scalar.muli (Scf.iv 0#32 1#32 k) 32#32)) arg1 v0 v1
          (arg8.view.readAt (Elt F) (Rect.unit (s := S128x512) (k0_off16 k) S32x128.size (k0_off16_inb k)).toLoadRect X_arg8)
          (arg8.view.readAt (Elt F) (Rect.unit (s := S128x512) (k0_off17 k) S32x128.size (k0_off17_inb k)).toLoadRect X_arg8)
          (arg8.view.readAt (Elt F) (Rect.unit (s := S128x512) (k0_off18 k) S32x128.size (k0_off18_inb k)).toLoadRect X_arg8)
          (arg8.view.readAt (Elt F) (Rect.unit (s := S128x512) (k0_off19 k) S32x128.size (k0_off19_inb k)).toLoadRect X_arg8)⟩] := by
  unfold tripL_k0_t4 trip_k0_t4; rfl

/-- A trip of loop 5 writes one piece, the trip function of its four loads. -/
theorem tripL5_eq (v258 : FVec F S32x512 .bf16) (v264 : FVec F S32x512 .bf16) (v266 : FVec F S1x512 .bf16) (v268 : FVec F S32x512 .bf16) (X_arg8 : BufTy.Contents (Elt F) arg8.view.ty) (k : Fin k0_t5_loop.trips) :
    tripL_k0_t5 (F := F) 𝒱 c bd i arg2 harg2 arg3 harg3 arg4 harg4 arg5 harg5 arg6 harg6 arg7 harg7 arg8 harg8 arg9 harg9 arg10 harg10 arg0 arg1 v0 v1 v92 v258 v264 v266 v268 X_arg8 k
      = [⟨Rect.unit (s := S128x128) (k0_off25 k) S32x128.size (k0_off25_inb k),
        trip v92 (Scalar.addi (Scalar.addi (Scalar.muli arg0 768#32) 512#32) (Scalar.muli (Scf.iv 0#32 1#32 k) 32#32)) arg1 v0 v1
          (arg8.view.readAt (Elt F) (Rect.unit (s := S128x512) (k0_off21 k) S32x128.size (k0_off21_inb k)).toLoadRect X_arg8)
          (arg8.view.readAt (Elt F) (Rect.unit (s := S128x512) (k0_off22 k) S32x128.size (k0_off22_inb k)).toLoadRect X_arg8)
          (arg8.view.readAt (Elt F) (Rect.unit (s := S128x512) (k0_off23 k) S32x128.size (k0_off23_inb k)).toLoadRect X_arg8)
          (arg8.view.readAt (Elt F) (Rect.unit (s := S128x512) (k0_off24 k) S32x128.size (k0_off24_inb k)).toLoadRect X_arg8)⟩] := by
  unfold tripL_k0_t5 trip_k0_t5; rfl

/-- A trip of loop 6 writes one piece, the trip function of its four loads. -/
theorem tripL6_eq (v298 : FVec F S32x512 .bf16) (X_arg8 : BufTy.Contents (Elt F) arg8.view.ty) (k : Fin k0_t6_loop.trips) :
    tripL_k0_t6 (F := F) 𝒱 c bd i arg2 harg2 arg3 harg3 arg4 harg4 arg5 harg5 arg6 harg6 arg7 harg7 arg8 harg8 arg9 harg9 arg10 harg10 arg0 arg1 v0 v1 v92 v298 X_arg8 k
      = [⟨Rect.unit (s := S128x128) (k0_off30 k) S32x128.size (k0_off30_inb k),
        trip v92 (Scalar.addi (Scalar.addi (Scalar.muli arg0 768#32) 640#32) (Scalar.muli (Scf.iv 0#32 1#32 k) 32#32)) arg1 v0 v1
          (arg8.view.readAt (Elt F) (Rect.unit (s := S128x512) (k0_off26 k) S32x128.size (k0_off26_inb k)).toLoadRect X_arg8)
          (arg8.view.readAt (Elt F) (Rect.unit (s := S128x512) (k0_off27 k) S32x128.size (k0_off27_inb k)).toLoadRect X_arg8)
          (arg8.view.readAt (Elt F) (Rect.unit (s := S128x512) (k0_off28 k) S32x128.size (k0_off28_inb k)).toLoadRect X_arg8)
          (arg8.view.readAt (Elt F) (Rect.unit (s := S128x512) (k0_off29 k) S32x128.size (k0_off29_inb k)).toLoadRect X_arg8)⟩] := by
  unfold tripL_k0_t6 trip_k0_t6; rfl

end Cert.KernelIdeal.Body

end
-- ==== Proof.Philox.lean ====
/- THE GENERATOR, ONE WORD AT A TIME. A round of the ten-round generator multiplies two of its four words by constants and keeps both
   halves of the products. Kernel and reference spell the high half by different splittings into halves of a word;
   each spelling is shown equal to the plain quotient `m * a / 2^32`. -/
module

public import proofs.«01_k».proof.Proof.Trip
public import Idealize.ShloMosaic.Lib.ValueIdxCoords
public import Mathlib.Tactic.NormNum
public import Mathlib.Tactic.Ring

@[expose] public section

noncomputable section

namespace Cert.KernelIdeal.Body

open Idealize.ShloMosaic Idealize.ShloMosaic.ValueIdx Idealize.ShloMosaic.TcCoe Cert.KernelIdeal Cert.KernelIdeal.Gen

/-- The high word of the product `m * a`. -/
def mulHi (m : ℕ) (a : BitVec 32) : BitVec 32 := BitVec.ofNat 32 (m * a.toNat / 2 ^ 32)

theorem mulHi_zero (m : ℕ) : mulHi m 0#32 = 0#32 := by simp [mulHi]

/-- A word is determined by its two halves. -/
theorem halves (a : ℕ) (h : a < 2 ^ 32) : ∃ p q, p < 65536 ∧ q < 65536 ∧ a = p * 65536 + q ∧ a / 65536 = p ∧ a % 65536 = q :=
  ⟨a / 65536, a % 65536, by omega, by omega, by omega, rfl, rfl⟩

/-- The kernel's high word for the first constant. -/
theorem hi0_eq (a : BitVec 32) :
    (a >>> 16) * 53841#32 + (((a >>> 16) * 8019#32 + ((a &&& 65535#32) * 53841#32 + (((a &&& 65535#32) * 8019#32) >>> 16))) >>> 16)
      = mulHi 3528531795 a := by
  have hand : (a &&& 65535#32).toNat = a.toNat % 65536 := by
    rw [BitVec.toNat_and]; exact Nat.and_two_pow_sub_one_eq_mod a.toNat 16
  apply BitVec.eq_of_toNat_eq
  simp only [mulHi, BitVec.toNat_add, BitVec.toNat_mul, BitVec.toNat_ushiftRight, Nat.shiftRight_eq_div_pow, hand, BitVec.toNat_ofNat]
  obtain ⟨p, q, hp, hq, ha, hd, hm⟩ := halves a.toNat a.isLt
  norm_num only [hd, hm, Nat.mod_add_mod, Nat.add_mod_mod]
  have h1 : (q * 8019) % 4294967296 = q * 8019 := by omega
  have h2 : (p * 8019 + (q * 53841 + q * 8019 / 65536)) % 4294967296 = p * 8019 + (q * 53841 + q * 8019 / 65536) :=
    Nat.mod_eq_of_lt (by have : q * 8019 / 65536 < 65536 := by omega
                         omega)
  have h3 : 3528531795 * a.toNat / 4294967296 = 3528531795 * a.toNat / 65536 / 65536 := by omega
  have h4 : 3528531795 * a.toNat / 65536 = p * 53841 * 65536 + (p * 8019 + (q * 53841 + q * 8019 / 65536)) := by
    rw [ha, show 3528531795 * (p * 65536 + q) = (p * 53841 * 65536 + (p * 8019 + q * 53841)) * 65536 + q * 8019 by ring]
    rw [show ∀ A X : ℕ, (A * 65536 + X) / 65536 = A + X / 65536 from fun A X => by omega]; ring
  rw [h1, h2, h3, h4]
  rw [show ∀ A X : ℕ, (A * 65536 + X) / 65536 = A + X / 65536 from fun A X => by omega]

/-- The kernel's high word for the second constant. -/
theorem hi1_eq (a : BitVec 32) :
    (a >>> 16) * 52638#32 + (((a >>> 16) * 18091#32 + ((a &&& 65535#32) * 26319#32 + (((a >>> 1) + (a &&& 65535#32) * 18091#32) >>> 16))) >>> 15)
      = mulHi 3449720151 a := by
  have hand : (a &&& 65535#32).toNat = a.toNat % 65536 := by
    rw [BitVec.toNat_and]; exact Nat.and_two_pow_sub_one_eq_mod a.toNat 16
  apply BitVec.eq_of_toNat_eq
  simp only [mulHi, BitVec.toNat_add, BitVec.toNat_mul, BitVec.toNat_ushiftRight, Nat.shiftRight_eq_div_pow, hand, BitVec.toNat_ofNat]
  obtain ⟨p, q, hp, hq, ha, hd, hm⟩ := halves a.toNat a.isLt
  norm_num only [hd, hm, Nat.mod_add_mod, Nat.add_mod_mod]
  have h1 : (a.toNat / 2 + q * 18091) % 4294967296 = a.toNat / 2 + q * 18091 := by omega
  have h2 : (p * 18091 + (q * 26319 + (a.toNat / 2 + q * 18091) / 65536)) % 4294967296
      = p * 18091 + (q * 26319 + (a.toNat / 2 + q * 18091) / 65536) := by omega
  have h3 : 3449720151 * a.toNat / 4294967296 = 3449720151 * a.toNat / 2 / 65536 / 32768 := by omega
  have h4 : 3449720151 * a.toNat / 2 = 1724860075 * a.toNat + a.toNat / 2 := by omega
  have h5 : (1724860075 * a.toNat + a.toNat / 2) / 65536
      = p * 52638 * 32768 + (p * 18091 + (q * 26319 + (a.toNat / 2 + q * 18091) / 65536)) := by omega
  rw [h1, h2, h3, h4, h5]
  rw [show ∀ A X : ℕ, (A * 32768 + X) / 32768 = A + X / 32768 from fun A X => by omega]

/-- The reference's high word, by the four products of halves. -/
theorem hi_halves (m a : BitVec 32) :
    (m >>> 16) * (a >>> 16) + (((m >>> 16) * (a &&& 65535#32) + (((m &&& 65535#32) * (a &&& 65535#32)) >>> 16)) >>> 16)
        + (((m &&& 65535#32) * (a >>> 16) + (((m >>> 16) * (a &&& 65535#32) + (((m &&& 65535#32) * (a &&& 65535#32)) >>> 16)) &&& 65535#32)) >>> 16)
      = mulHi m.toNat a := by
  have hand : ∀ b : BitVec 32, (b &&& 65535#32).toNat = b.toNat % 65536 := fun b => by
    rw [BitVec.toNat_and]; exact Nat.and_two_pow_sub_one_eq_mod b.toNat 16
  apply BitVec.eq_of_toNat_eq
  simp only [mulHi, BitVec.toNat_add, BitVec.toNat_mul, BitVec.toNat_ushiftRight, Nat.shiftRight_eq_div_pow, hand, BitVec.toNat_ofNat]
  obtain ⟨p, q, hp, hq, ha, hd, hm⟩ := halves a.toNat a.isLt
  obtain ⟨r, t, hr, ht, hb, hd', hm'⟩ := halves m.toNat m.isLt
  norm_num [hd, hm, hd', hm']
  rw [hb, ha, show (r * 65536 + t) * (p * 65536 + q) = (r * p) * 4294967296 + (r * q + t * p) * 65536 + t * q by ring]
  have h1 : r * p ≤ 65535 * 65535 := Nat.mul_le_mul (by omega) (by omega)
  have h2 : r * q ≤ 65535 * 65535 := Nat.mul_le_mul (by omega) (by omega)
  have h3 : t * p ≤ 65535 * 65535 := Nat.mul_le_mul (by omega) (by omega)
  have h4 : t * q ≤ 65535 * 65535 := Nat.mul_le_mul (by omega) (by omega)
  generalize r * p = A at *; generalize r * q = B at *; generalize t * p = C at *; generalize t * q = E at *
  omega

/-- The generator's four words. -/
@[ext] structure Four where
  c0 : BitVec 32
  c1 : BitVec 32
  c2 : BitVec 32
  c3 : BitVec 32

/-- One round with its two keys. -/
def roundF (s : Four) (k0 k1 : BitVec 32) : Four :=
  ⟨mulHi 3449720151 s.c2 ^^^ s.c1 ^^^ k0, s.c2 * 3449720151#32, mulHi 3528531795 s.c0 ^^^ s.c3 ^^^ k1, s.c0 * 3528531795#32⟩

/-- The state after `n` rounds from the counter `(c, 0, 0, 0)`. -/
def rounds (c k0 k1 : BitVec 32) : ℕ → Four
  | 0 => ⟨c, 0#32, 0#32, 0#32⟩
  | n + 1 => roundF (rounds c k0 k1 n) (key0 k0 n) (key1 k1 n)

/-- The four words of a vector state at one index. -/
def Words.at (w : Words) (x : S32x128.Idx) : Four := ⟨w.w0 x, w.w1 x, w.w2 x, w.w3 x⟩

theorem mulHi0_apply {s : Shape} (a : IVec s 32) (x : s.Idx) : mulHi0 a x = mulHi 3528531795 (a x) := hi0_eq (a x)
theorem mulHi1_apply {s : Shape} (a : IVec s 32) (x : s.Idx) : mulHi1 a x = mulHi 3449720151 (a x) := hi1_eq (a x)
theorem mulLo0_apply {s : Shape} (a : IVec s 32) (x : s.Idx) : mulLo0 a x = a x * 3528531795#32 := rfl
theorem mulLo1_apply {s : Shape} (a : IVec s 32) (x : s.Idx) : mulLo1 a x = a x * 3449720151#32 := rfl
theorem xori_at {s : Shape} (a b : IVec s 32) (x : s.Idx) : xori a b x = a x ^^^ b x := rfl
theorem broadcast_at {s : Shape} (a : BitVec 32) (x : s.Idx) : (broadcast s a : IVec s 32) x = a := rfl
theorem broadcastTo_at (a : IVec S1x128 32) (x : S32x128.Idx) :
    broadcastTo S32x128 a broadcasts_S1x128_S32x128 x = a (ix2 (0 : Fin 1) (x 1)) := by
  refine congrArg a (funext fun d => ?_); revert d; rw [Fin.forall_fin_two]; exact ⟨rfl, rfl⟩

theorem round_at (w : Words) (k0 k1 : BitVec 32) (x : S32x128.Idx) : (round w k0 k1).at x = roundF (w.at x) k0 k1 := by
  simp only [Words.at, round, roundF, xori_at, mulHi0_apply, mulHi1_apply, mulLo0_apply, mulLo1_apply, broadcast_at, BitVec.xor_assoc]

theorem third_at (n : IVec S32x128 32) (k0 k1 : BitVec 32) (x : S32x128.Idx) : (third n k0 k1).at x = rounds (n x) k0 k1 3 := by
  have hz : ∀ y, (addi (broadcast S1x128 k0) (broadcast S1x128 0#32) : IVec S1x128 32) y = k0 := fun y => BitVec.add_zero k0
  simp only [Words.at, third, rounds, roundF, xori_at, mulHi0_apply, mulHi1_apply, mulLo0_apply, mulLo1_apply, broadcast_at, broadcastTo_at, hz,
    mulHi_zero, BitVec.xor_assoc, BitVec.zero_xor, BitVec.xor_zero, BitVec.zero_mul, key0, key1]
  have h : ∀ a b c : BitVec 32, a ^^^ (b ^^^ c) = b ^^^ (a ^^^ c) := by intros; ac_rfl
  rw [h (mulHi 3528531795 k0)]

theorem philox_at (n : IVec S32x128 32) (k0 k1 : BitVec 32) (x : S32x128.Idx) : (philox n k0 k1).at x = rounds (n x) k0 k1 10 := by
  simp only [philox, round_at, third_at]; rfl

end Cert.KernelIdeal.Body

end
-- ==== Proof.Nib.lean ====
/- THE CODE WORDS OF ONE CHUNK. After a counted loop of four trips the nibble buffer holds, at row `r` and lane `l`, the
   code word of sequence row `r` of the chunk: a function of the products the loop loaded and of the counter of that place. -/
module

public import proofs.«01_k».proof.Proof.Philox
public import Idealize.ShloMosaic.Lib.Pipeline.Value
public import Idealize.ShloMosaic.Lib.Pointwise.ElementwiseCore
public import Mathlib.Data.BitVec

@[expose] public section

noncomputable section

namespace Cert.KernelIdeal.Body

open Idealize.ShloMosaic Idealize.ShloMosaic.ValueIdx Idealize.ShloMosaic.TcCoe Cert.KernelIdeal Cert.KernelIdeal.Gen

variable {F : FTy → Type} [FloatOps F]

/-- The code word of four products under four random words. -/
def packedAt (y0 y1 y2 y3 : F .f32) (s : Four) : BitVec 32 :=
  packed (fun _ => y0) (fun _ => y1) (fun _ => y2) (fun _ => y3) ⟨fun _ => s.c0, fun _ => s.c1, fun _ => s.c2, fun _ => s.c3⟩
    (ix2 (0 : Fin 32) (0 : Fin 128))

theorem packed_apply (y0 y1 y2 y3 : FVec F S32x128 .f32) (w : Words) (x : S32x128.Idx) :
    packed y0 y1 y2 y3 w x = packedAt (y0 x) (y1 x) (y2 x) (y3 x) (w.at x) := by
  unfold packedAt packed
  rw [shapeCast_self, shapeCast_self]
  simp only [ori, andi, subi, shli, packElementwiseInt8_apply]
  rfl

/-- The code word at row `r`, lane `l` of the chunk that begins at sequence row `c`, for the column group `j` of batch `b`. -/
def nibAt (c b j : ℕ) (k0 k1 : BitVec 32) (Y : Vec F S128x512 .f32) (r l : Fin 128) : BitVec 32 :=
  packedAt (Y (ix2 r (⟨l.val, by omega⟩ : Fin 512))) (Y (ix2 r (⟨l.val + 128, by omega⟩ : Fin 512)))
    (Y (ix2 r (⟨l.val + 256, by omega⟩ : Fin 512))) (Y (ix2 r (⟨l.val + 384, by omega⟩ : Fin 512)))
    (rounds (BitVec.ofNat 32 ((b * 768 + c + r.val) * 4096 + j * 128 + l.val)) k0 k1 10)

/-- The row and lane part of the counter. -/
theorem base_apply (r : Fin 32) (l : Fin 128) : k0_pay563 (ix2 r l) = BitVec.ofNat 32 (r.val * 4096 + l.val) := by
  revert r l; decide +kernel

/-- The first sequence row of a trip. -/
def tripRow (c b k : ℕ) : BitVec 32 := BitVec.ofNat 32 (b * 768 + c + k * 32)

theorem trip_apply (c b j : ℕ) (k : Fin 4) (k0 k1 : BitVec 32) (Y : Vec F S128x512 .f32) (r : Fin 32) (l : Fin 128)
    (y0 y1 y2 y3 : FVec F S32x128 .f32)
    (h0 : y0 (ix2 r l) = Y (ix2 (⟨32 * k.val + r.val, by omega⟩ : Fin 128) (⟨l.val, by omega⟩ : Fin 512)))
    (h1 : y1 (ix2 r l) = Y (ix2 (⟨32 * k.val + r.val, by omega⟩ : Fin 128) (⟨l.val + 128, by omega⟩ : Fin 512)))
    (h2 : y2 (ix2 r l) = Y (ix2 (⟨32 * k.val + r.val, by omega⟩ : Fin 128) (⟨l.val + 256, by omega⟩ : Fin 512)))
    (h3 : y3 (ix2 r l) = Y (ix2 (⟨32 * k.val + r.val, by omega⟩ : Fin 128) (⟨l.val + 384, by omega⟩ : Fin 512))) :
    trip k0_pay563 (tripRow c b k) (BitVec.ofNat 32 j) k0 k1 y0 y1 y2 y3 (ix2 r l)
      = nibAt c b j k0 k1 Y (⟨32 * k.val + r.val, by omega⟩ : Fin 128) l := by
  unfold trip nibAt
  rw [packed_apply, philox_at, h0, h1, h2, h3]
  refine congrArg (fun n => packedAt _ _ _ _ (rounds n k0 k1 10)) ?_
  show k0_pay563 (ix2 r l) + (tripRow c b k * 4096#32 + BitVec.ofNat 32 j * 128#32) = _
  rw [base_apply, tripRow]
  simp only [← BitVec.ofNat_add, ← BitVec.ofNat_mul]
  exact congrArg (BitVec.ofNat 32) (by ring)

/-- A load of 32 rows and 128 columns of the product buffer. -/
theorem load_rows {κ : Kind} {sp : Space} (v : View sig κ sp S128x512 .f32) (X : v.ty.Contents (Elt F)) (o : Fin 2 → ℕ)
    (inb : ∀ a, o a + S32x128.size a ≤ S128x512.size a) (k d : ℕ) (ho : o = ![32 * k, d]) (r : Fin 32) (l : Fin 128)
    (hr : 32 * k + r.val < 128) (hl : l.val + d < 512) :
    v.readAt (Elt F) (Rect.unit (s := S128x512) o S32x128.size inb).toLoadRect X (ix2 r l)
      = v.read (Elt F) X (ix2 (⟨32 * k + r.val, hr⟩ : Fin 128) (⟨l.val + d, hl⟩ : Fin 512)) := by
  subst ho
  refine congrArg (v.read (Elt F) X) (funext fun a => Fin.ext ?_)
  revert a; rw [Fin.forall_fin_two]
  refine ⟨?_, ?_⟩
  · show 32 * k + 1 * r.val = 32 * k + r.val; omega
  · show d + 1 * l.val = l.val + d; omega

/-- Four trips of 32 rows each fill the nibble buffer, whatever it held before. -/
theorem trips_read {κ κ' : Kind} {sp sp' : Space} (v : View sig κ sp S128x128 .i32) (f : v.ty.Contents (Elt F))
    (v8 : View sig κ' sp' S128x512 .f32) (X : v8.ty.Contents (Elt F)) (n c b j : ℕ) (hn : n = 4) (k0 k1 : BitVec 32)
    (pb : ℕ → List (View.Piece (Elt F) S128x128 .i32)) (o o0 o1 o2 o3 : Fin n → Fin 2 → ℕ)
    (inb : ∀ k a, o k a + S32x128.size a ≤ S128x128.size a)
    (i0 : ∀ k a, o0 k a + S32x128.size a ≤ S128x512.size a) (i1 : ∀ k a, o1 k a + S32x128.size a ≤ S128x512.size a)
    (i2 : ∀ k a, o2 k a + S32x128.size a ≤ S128x512.size a) (i3 : ∀ k a, o3 k a + S32x128.size a ≤ S128x512.size a)
    (row : Fin n → BitVec 32)
    (ho : ∀ k : Fin n, (o k = ![32 * k.val, 0] ∧ o0 k = ![32 * k.val, 0] ∧ o1 k = ![32 * k.val, 128] ∧ o2 k = ![32 * k.val, 256]
      ∧ o3 k = ![32 * k.val, 384]))
    (hrow : ∀ k : Fin n, row k = tripRow c b k)
    (h0 : pb 0 = [])
    (hs : ∀ k : Fin n, pb (k.val + 1) = [⟨Rect.unit (s := S128x128) (o k) S32x128.size (inb k),
        trip k0_pay563 (row k) (BitVec.ofNat 32 j) k0 k1
          (v8.readAt (Elt F) (Rect.unit (s := S128x512) (o0 k) S32x128.size (i0 k)).toLoadRect X)
          (v8.readAt (Elt F) (Rect.unit (s := S128x512) (o1 k) S32x128.size (i1 k)).toLoadRect X)
          (v8.readAt (Elt F) (Rect.unit (s := S128x512) (o2 k) S32x128.size (i2 k)).toLoadRect X)
          (v8.readAt (Elt F) (Rect.unit (s := S128x512) (o3 k) S32x128.size (i3 k)).toLoadRect X)⟩] ++ pb k.val) :
    v.read (Elt F) (v.writes (Elt F) f (pb n)) = fun x => nibAt c b j k0 k1 (v8.read (Elt F) X) (x 0) (x 1) := by
  subst hn
  have hp : ∀ k ≤ 4, ∀ p ∈ pb k, ∃ (t : Fin 4), p = ⟨Rect.unit (s := S128x128) (o t) S32x128.size (inb t),
        trip k0_pay563 (row t) (BitVec.ofNat 32 j) k0 k1
          (v8.readAt (Elt F) (Rect.unit (s := S128x512) (o0 t) S32x128.size (i0 t)).toLoadRect X)
          (v8.readAt (Elt F) (Rect.unit (s := S128x512) (o1 t) S32x128.size (i1 t)).toLoadRect X)
          (v8.readAt (Elt F) (Rect.unit (s := S128x512) (o2 t) S32x128.size (i2 t)).toLoadRect X)
          (v8.readAt (Elt F) (Rect.unit (s := S128x512) (o3 t) S32x128.size (i3 t)).toLoadRect X)⟩ := by
    intro k
    induction k with
    | zero => intro _ p h; rw [h0] at h; exact absurd h List.not_mem_nil
    | succ k ih =>
      intro hk p h
      rw [hs ⟨k, by omega⟩] at h
      rcases List.mem_append.mp h with h | h
      · exact ⟨⟨k, by omega⟩, List.mem_singleton.mp h⟩
      · exact ih (by omega) p h
  have hm : ∀ (t : Fin 4) (d : ℕ), t.val + 1 + d ≤ 4 → ∃ p ∈ pb (t.val + 1 + d), p.1 = Rect.unit (s := S128x128) (o t) S32x128.size (inb t) := by
    intro t d
    induction d with
    | zero => intro _; rw [Nat.add_zero, hs t]; exact ⟨_, List.mem_append_left _ (List.mem_singleton.mpr rfl), rfl⟩
    | succ d ih =>
      intro hd
      obtain ⟨p, h, e⟩ := ih (by omega)
      refine ⟨p, ?_, e⟩
      rw [← Nat.add_assoc, hs ⟨t.val + 1 + d, by omega⟩]
      exact List.mem_append_right _ h
  funext y
  refine View.read_writes_apply_of_pieces v f (fun x => nibAt c b j k0 k1 (v8.read (Elt F) X) (x 0) (x 1)) (pb 4) ?_ y ?_
  · intro p h x
    obtain ⟨t, rfl⟩ := hp 4 le_rfl p h
    obtain ⟨ho, e0, e1, e2, e3⟩ := ho t
    obtain ⟨r, l, rfl⟩ : ∃ (r : Fin 32) (l : Fin 128), x = ix2 r l := ⟨x 0, x 1, by funext a; revert a; rw [Fin.forall_fin_two]; exact ⟨rfl, rfl⟩⟩
    show trip _ (row t) _ _ _ _ _ _ _ (ix2 r l) = _
    rw [hrow t, trip_apply c b j t k0 k1 (v8.read (Elt F) X) r l _ _ _ _
      (load_rows v8 X _ _ t 0 e0 r l (by omega) (by omega)) (load_rows v8 X _ _ t 128 e1 r l (by omega) (by omega))
      (load_rows v8 X _ _ t 256 e2 r l (by omega) (by omega)) (load_rows v8 X _ _ t 384 e3 r l (by omega) (by omega))]
    refine congrArg₂ (nibAt c b j k0 k1 (v8.read (Elt F) X)) (Fin.ext ?_) (Fin.ext ?_)
    · show 32 * t.val + r.val = o t 0 + 1 * r.val
      rw [ho]; show _ = 32 * t.val + 1 * r.val; omega
    · show l.val = o t 1 + 1 * l.val
      rw [ho]; show _ = 0 + 1 * l.val; omega
  · have hy : (y 0).val < 128 := (y 0).isLt
    have hy1 : (y 1).val < 128 := (y 1).isLt
    let t : Fin 4 := ⟨(y 0).val / 32, by omega⟩
    obtain ⟨p, h, e⟩ := hm t (3 - t.val) (by omega)
    rw [show t.val + 1 + (3 - t.val) = 4 by omega] at h
    refine ⟨p, h, ?_⟩
    rw [e, Rect.mem_set_unit, (ho t).1]
    intro a; revert a; rw [Fin.forall_fin_two]
    refine ⟨?_, ?_⟩
    · show 32 * ((y 0).val / 32) ≤ (y 0).val ∧ (y 0).val < 32 * ((y 0).val / 32) + 32; omega
    · show 0 ≤ (y 1).val ∧ (y 1).val < 0 + 128; omega

/-- The row constant as the kernel computes it. -/
theorem tripRow_eq (c b k : ℕ) (iv : BitVec 32) (h : iv = BitVec.ofNat 32 k) :
    Scalar.addi (Scalar.addi (Scalar.muli (BitVec.ofNat 32 b) 768#32) (BitVec.ofNat 32 c)) (Scalar.muli iv 32#32) = tripRow c b k := by
  subst h
  show BitVec.ofNat 32 b * 768#32 + BitVec.ofNat 32 c + BitVec.ofNat 32 k * 32#32 = _
  simp only [← BitVec.ofNat_add, ← BitVec.ofNat_mul, tripRow]

/-! ## The six loops -/

variable (𝒱 : Variants) (c : Dev nD) (bd : Option 𝒱.V) (i : grid0.Coords)
  (arg2 : Memref sig .tc .smem S2 .i32) (harg2 : arg2.IsWhole)
  (arg3 : Memref sig .tc .vmem S512x512 .bf16) (harg3 : arg3.IsWhole)
  (arg4 : Memref sig .tc .vmem S1x768x512 .bf16) (harg4 : arg4.IsWhole)
  (arg5 : Memref sig .tc .vmem S1x512x384 .i8) (harg5 : arg5.IsWhole)
  (arg6 : Memref sig .tc .vmem S1x512x24 .i8) (harg6 : arg6.IsWhole)
  (arg7 : Memref sig .tc .vmem S24x512 .f32) (harg7 : arg7.IsWhole)
  (arg8 : Memref sig .tc .vmem S128x512 .f32) (harg8 : arg8.IsWhole)
  (arg9 : Memref sig .tc .vmem S128x128 .i32) (harg9 : arg9.IsWhole)
  (arg10 : Memref sig .tc .vmem S384x128 .i32) (harg10 : arg10.IsWhole)
  (v0 v1 : BitVec 32) (b j : ℕ)

/-- What loop 1 leaves in the nibble buffer. -/
theorem loop1_read (v117 : FVec F S128x512 .bf16) (X_arg8 : BufTy.Contents (Elt F) arg8.view.ty) (f : arg9.view.ty.Contents (Elt F)) :
    arg9.view.read (Elt F) (arg9.view.writes (Elt F) f (pb_k0_t1 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v117 X_arg8 (Scf.trips k0_t1_loop.lb k0_t1_loop.ub k0_t1_loop.st)))
      = fun x => nibAt 0 b j v0 v1 (arg8.view.read (Elt F) X_arg8) (x 0) (x 1) :=
  trips_read arg9.view f arg8.view X_arg8 k0_t1_loop.trips 0 b j (by decide) v0 v1
    (pb_k0_t1 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v117 X_arg8) k0_off5 k0_off1 k0_off2 k0_off3 k0_off4
    k0_off5_inb k0_off1_inb k0_off2_inb k0_off3_inb k0_off4_inb
    (fun k => Scalar.addi (Scalar.addi (Scalar.muli (BitVec.ofNat 32 b) 768#32) 0#32) (Scalar.muli (Scf.iv 0#32 1#32 k) 32#32)) (by decide +kernel)
    (fun k => tripRow_eq 0 b k _ (by revert k; decide +kernel)) (by rw [pb_k0_t1.eq_1])
    (fun k => by rw [pb_k0_t1_succ, tripL1_eq])

/-- What loop 2 leaves in the nibble buffer. -/
theorem loop2_read (v138 : FVec F S32x512 .bf16) (v144 : FVec F S32x512 .bf16) (v146 : FVec F S1x512 .bf16) (X_arg8 : BufTy.Contents (Elt F) arg8.view.ty) (f : arg9.view.ty.Contents (Elt F)) :
    arg9.view.read (Elt F) (arg9.view.writes (Elt F) f (pb_k0_t2 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v138 v144 v146 X_arg8 (Scf.trips k0_t2_loop.lb k0_t2_loop.ub k0_t2_loop.st)))
      = fun x => nibAt 128 b j v0 v1 (arg8.view.read (Elt F) X_arg8) (x 0) (x 1) :=
  trips_read arg9.view f arg8.view X_arg8 k0_t2_loop.trips 128 b j (by decide) v0 v1
    (pb_k0_t2 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v138 v144 v146 X_arg8) k0_off10 k0_off6 k0_off7 k0_off8 k0_off9
    k0_off10_inb k0_off6_inb k0_off7_inb k0_off8_inb k0_off9_inb
    (fun k => Scalar.addi (Scalar.addi (Scalar.muli (BitVec.ofNat 32 b) 768#32) 128#32) (Scalar.muli (Scf.iv 0#32 1#32 k) 32#32)) (by decide +kernel)
    (fun k => tripRow_eq 128 b k _ (by revert k; decide +kernel)) (by rw [pb_k0_t2.eq_1])
    (fun k => by rw [pb_k0_t2_succ, tripL2_eq])

/-- What loop 3 leaves in the nibble buffer. -/
theorem loop3_read (v174 : FVec F S1x512 .bf16) (v176 : FVec F S32x512 .bf16) (X_arg8 : BufTy.Contents (Elt F) arg8.view.ty) (f : arg9.view.ty.Contents (Elt F)) :
    arg9.view.read (Elt F) (arg9.view.writes (Elt F) f (pb_k0_t3 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v174 v176 X_arg8 (Scf.trips k0_t3_loop.lb k0_t3_loop.ub k0_t3_loop.st)))
      = fun x => nibAt 256 b j v0 v1 (arg8.view.read (Elt F) X_arg8) (x 0) (x 1) :=
  trips_read arg9.view f arg8.view X_arg8 k0_t3_loop.trips 256 b j (by decide) v0 v1
    (pb_k0_t3 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v174 v176 X_arg8) k0_off15 k0_off11 k0_off12 k0_off13 k0_off14
    k0_off15_inb k0_off11_inb k0_off12_inb k0_off13_inb k0_off14_inb
    (fun k => Scalar.addi (Scalar.addi (Scalar.muli (BitVec.ofNat 32 b) 768#32) 256#32) (Scalar.muli (Scf.iv 0#32 1#32 k) 32#32)) (by decide +kernel)
    (fun k => tripRow_eq 256 b k _ (by revert k; decide +kernel)) (by rw [pb_k0_t3.eq_1])
    (fun k => by rw [pb_k0_t3_succ, tripL3_eq])

/-- What loop 4 leaves in the nibble buffer. -/
theorem loop4_read (v237 : FVec F S128x512 .bf16) (v239 : FVec F S512x512 .bf16) (cst_120 : FVec F S128x512 .f32) (X_arg8 : BufTy.Contents (Elt F) arg8.view.ty) (f : arg9.view.ty.Contents (Elt F)) :
    arg9.view.read (Elt F) (arg9.view.writes (Elt F) f (pb_k0_t4 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v237 v239 cst_120 X_arg8 (Scf.trips k0_t4_loop.lb k0_t4_loop.ub k0_t4_loop.st)))
      = fun x => nibAt 384 b j v0 v1 (arg8.view.read (Elt F) X_arg8) (x 0) (x 1) :=
  trips_read arg9.view f arg8.view X_arg8 k0_t4_loop.trips 384 b j (by decide) v0 v1
    (pb_k0_t4 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v237 v239 cst_120 X_arg8) k0_off20 k0_off16 k0_off17 k0_off18 k0_off19
    k0_off20_inb k0_off16_inb k0_off17_inb k0_off18_inb k0_off19_inb
    (fun k => Scalar.addi (Scalar.addi (Scalar.muli (BitVec.ofNat 32 b) 768#32) 384#32) (Scalar.muli (Scf.iv 0#32 1#32 k) 32#32)) (by decide +kernel)
    (fun k => tripRow_eq 384 b k _ (by revert k; decide +kernel)) (by rw [pb_k0_t4.eq_1])
    (fun k => by rw [pb_k0_t4_succ, tripL4_eq])

/-- What loop 5 leaves in the nibble buffer. -/
theorem loop5_read (v258 : FVec F S32x512 .bf16) (v264 : FVec F S32x512 .bf16) (v266 : FVec F S1x512 .bf16) (v268 : FVec F S32x512 .bf16) (X_arg8 : BufTy.Contents (Elt F) arg8.view.ty) (f : arg9.view.ty.Contents (Elt F)) :
    arg9.view.read (Elt F) (arg9.view.writes (Elt F) f (pb_k0_t5 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v258 v264 v266 v268 X_arg8 (Scf.trips k0_t5_loop.lb k0_t5_loop.ub k0_t5_loop.st)))
      = fun x => nibAt 512 b j v0 v1 (arg8.view.read (Elt F) X_arg8) (x 0) (x 1) :=
  trips_read arg9.view f arg8.view X_arg8 k0_t5_loop.trips 512 b j (by decide) v0 v1
    (pb_k0_t5 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v258 v264 v266 v268 X_arg8) k0_off25 k0_off21 k0_off22 k0_off23 k0_off24
    k0_off25_inb k0_off21_inb k0_off22_inb k0_off23_inb k0_off24_inb
    (fun k => Scalar.addi (Scalar.addi (Scalar.muli (BitVec.ofNat 32 b) 768#32) 512#32) (Scalar.muli (Scf.iv 0#32 1#32 k) 32#32)) (by decide +kernel)
    (fun k => tripRow_eq 512 b k _ (by revert k; decide +kernel)) (by rw [pb_k0_t5.eq_1])
    (fun k => by rw [pb_k0_t5_succ, tripL5_eq])

/-- What loop 6 leaves in the nibble buffer. -/
theorem loop6_read (v298 : FVec F S32x512 .bf16) (X_arg8 : BufTy.Contents (Elt F) arg8.view.ty) (f : arg9.view.ty.Contents (Elt F)) :
    arg9.view.read (Elt F) (arg9.view.writes (Elt F) f (pb_k0_t6 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v298 X_arg8 (Scf.trips k0_t6_loop.lb k0_t6_loop.ub k0_t6_loop.st)))
      = fun x => nibAt 640 b j v0 v1 (arg8.view.read (Elt F) X_arg8) (x 0) (x 1) :=
  trips_read arg9.view f arg8.view X_arg8 k0_t6_loop.trips 640 b j (by decide) v0 v1
    (pb_k0_t6 (F := F) 𝒱 c bd i arg2 harg2 arg3 harg3 arg4 harg4 arg5 harg5 arg6 harg6 arg7 harg7 arg8 harg8 arg9 harg9 arg10 harg10 (BitVec.ofNat 32 b) (BitVec.ofNat 32 j) v0 v1 k0_pay563 v298 X_arg8) k0_off30 k0_off26 k0_off27 k0_off28 k0_off29
    k0_off30_inb k0_off26_inb k0_off27_inb k0_off28_inb k0_off29_inb
    (fun k => Scalar.addi (Scalar.addi (Scalar.muli (BitVec.ofNat 32 b) 768#32) 640#32) (Scalar.muli (Scf.iv 0#32 1#32 k) 32#32)) (by decide +kernel)
    (fun k => tripRow_eq 640 b k _ (by revert k; decide +kernel)) (by rw [pb_k0_t6.eq_1])
    (fun k => by rw [pb_k0_t6_succ, tripL6_eq])

end Cert.KernelIdeal.Body

end
-- ==== Proof.Block.lean ====
/- WHAT THE BODY LEAVES IN ITS TWO RESULT BLOCKS, as functions of the operands: the scales of the block's groups, and the code
   words of its six chunks of 128 sequence rows, read as bytes. -/
module

public import proofs.«01_k».proof.Proof.Nib
public import Idealize.ShloMosaic.Lib.VecWindow

@[expose] public section

noncomputable section

namespace Cert.KernelIdeal.Body

open Idealize.ShloMosaic Idealize.ShloMosaic.ValueIdx Idealize.ShloMosaic.TcCoe Cert.KernelIdeal Cert.KernelIdeal.Gen

variable {F : FTy → Type} [FloatOps F]

/-- The block's group scales. -/
def scalesV (x2 : Vec F S1x768x512 .bf16) : IVec S1x512x24 8 :=
  k0_pay560 (k0_pay555 x2) (k0_pay556 x2) (k0_pay557 x2) (k0_pay558 x2)

/-- The groups' inverse scales. -/
def invV (x2 : Vec F S1x768x512 .bf16) : FVec F S24x512 .f32 :=
  k0_pay562 (k0_pay561 (k0_pay555 x2) (k0_pay556 x2) (k0_pay557 x2) (k0_pay558 x2))

theorem rowsX_inb (r : ℕ) (h : r + 32 ≤ 768) : ∀ a, (![0, r, 0] : Fin 3 → ℕ) a + S1x32x512.size a ≤ S1x768x512.size a := by
  rw [Fin.forall_fin_succ, Fin.forall_fin_two]
  exact ⟨Nat.le_refl 1, h, Nat.le_refl 512⟩

theorem rowI_inb (g : ℕ) (h : g < 24) : ∀ a, (![g, 0] : Fin 2 → ℕ) a + S1x512.size a ≤ S24x512.size a := by
  rw [Fin.forall_fin_two]
  exact ⟨h, Nat.le_refl 512⟩

/-- The block's rows from `r` on, one group of them. -/
def rowsX (x2 : Vec F S1x768x512 .bf16) (r : ℕ) (h : r + 32 ≤ 768) : Vec F S1x32x512 .bf16 :=
  View.ld (Val := Elt F) (e' := .bf16) x2 (Rect.unit (s := S1x768x512) ![0, r, 0] S1x32x512.size (rowsX_inb r h))

/-- One group's inverse scales. -/
def rowI (iv : Vec F S24x512 .f32) (g : ℕ) (h : g < 24) : Vec F S1x512 .f32 :=
  View.ld (Val := Elt F) (e' := .f32) iv (Rect.unit (s := S24x512) ![g, 0] S1x512.size (rowI_inb g h))

/-- A group's rows times its inverse scales. -/
def scaled (xr : Vec F S1x32x512 .bf16) (iv : Vec F S1x512 .f32) : FVec F S32x512 .bf16 :=
  mulf (shapeCast S32x512 xr shapeCasts_S1x32x512_S32x512) (broadcastTo S32x512 (truncf .bf16 iv bitsLt_bf16_f32) broadcasts_S1x512_S32x512)

/-- Four groups' scaled rows against the placement matrix. -/
def dotV (p0 p1 p2 p3 : FVec F S32x512 .bf16) (q : Vec F S512x512 .bf16) : FVec F S128x512 .f32 :=
  shapeCast S128x512 (matmul dot_S128x512_S512x512_S128x512_1_0_0_1_n_n none
    (concatenate S128x512 0 [⟨S32x512, p0⟩, ⟨S32x512, p1⟩, ⟨S32x512, p2⟩, ⟨S32x512, p3⟩] concatenates_S32x512_S32x512_S32x512_S32x512_S128x512_d0)
    (shapeCast S512x512 q shapeCasts_S512x512_S512x512) (constant S128x512 .f32 0x00000000#32)) shapeCasts_S128x512_S128x512

/-- The products of chunk `n`. -/
def chunkY (x1 : Vec F S512x512 .bf16) (x2 : Vec F S1x768x512 .bf16) (n : ℕ) (h : n < 6) : Vec F S128x512 .f32 :=
  dotV (scaled (rowsX x2 (128 * n) (by omega)) (rowI (invV x2) (4 * n) (by omega)))
    (scaled (rowsX x2 (128 * n + 32) (by omega)) (rowI (invV x2) (4 * n + 1) (by omega)))
    (scaled (rowsX x2 (128 * n + 64) (by omega)) (rowI (invV x2) (4 * n + 2) (by omega)))
    (scaled (rowsX x2 (128 * n + 96) (by omega)) (rowI (invV x2) (4 * n + 3) (by omega))) x1

/-- The word of two neighbouring sequence rows `128 n + 2 h` and `128 n + 2 h + 1` at one lane. -/
def wordAt (b j : ℕ) (x0 : Vec F S2 .i32) (x1 : Vec F S512x512 .bf16) (x2 : Vec F S1x768x512 .bf16) (n : ℕ) (hn : n < 6) (h : Fin 64)
    (l : Fin 128) : BitVec 32 :=
  nibAt (128 * n) b j (x0 (ix1 (0 : Fin 2))) (x0 (ix1 (1 : Fin 2))) (chunkY x1 x2 n hn) (⟨2 * h.val, by omega⟩ : Fin 128) l
    ||| (nibAt (128 * n) b j (x0 (ix1 (0 : Fin 2))) (x0 (ix1 (1 : Fin 2))) (chunkY x1 x2 n hn) (⟨2 * h.val + 1, by omega⟩ : Fin 128) l) <<< 4

/-- The block's words, one row per pair of sequence rows. -/
def wordsV (b j : ℕ) (x0 : Vec F S2 .i32) (x1 : Vec F S512x512 .bf16) (x2 : Vec F S1x768x512 .bf16) : Vec F S384x128 .i32 := fun y =>
  have hy : (y 0).val < 384 := (y 0).isLt
  wordAt b j x0 x1 x2 ((y 0).val / 64) (by omega) (⟨(y 0).val % 64, by omega⟩ : Fin 64) (y 1)

/-- The block's codes. -/
def codesV (b j : ℕ) (x0 : Vec F S2 .i32) (x1 : Vec F S512x512 .bf16) (x2 : Vec F S1x768x512 .bf16) : IVec S1x512x384 8 :=
  k0_pay2 (wordsV b j x0 x1 x2)

/-! ## The loads -/

section Loads
variable {κ : Kind} {sp : Space}

/-- A load of one row of a buffer one store has filled. -/
theorem cov_row (v : View sig κ sp S24x512 .f32) {o : Fin 2 → ℕ} (inb : ∀ a, o a + S24x512.size a ≤ S24x512.size a) {w w' : Vec F S24x512 .f32}
    (hw : w = w') (g : ℕ) (h : g < 24) (inb' : ∀ a, (![g, 0] : Fin 2 → ℕ) a + S1x512.size a ≤ S24x512.size a) :
    v.readCov (Val := Elt F) [⟨Rect.unit (s := S24x512) o S24x512.size inb, w⟩] (Rect.unit (s := S24x512) ![g, 0] S1x512.size inb').toLoadRect
      = rowI w' g h := by
  subst hw
  show v.readAt (Elt F) _ (v.writes (Elt F) v.junk _) = _
  rw [View.readAt_eq_ld, View.read_writes_full]
  rfl

/-- A load of one group's rows of an operand. -/
theorem load_x (m : Memref sig κ sp S1x768x512 .bf16) (hm : m.IsWhole) (x2 : Vec F S1x768x512 .bf16) (r : ℕ) (h : r + 32 ≤ 768)
    (inb : ∀ a, (![0, r, 0] : Fin 3 → ℕ) a + S1x32x512.size a ≤ S1x768x512.size a) :
    m.view.readAt (Elt F) (Rect.unit (s := S1x768x512) ![0, r, 0] S1x32x512.size inb).toLoadRect (hm.unread x2) = rowsX x2 r h := by
  rw [View.readAt_eq_ld, hm.read_unread]
  rfl

/-- A load of a whole operand. -/
theorem load_all {s : Shape} {e : EltTy} (m : Memref sig κ sp s e) (hm : m.IsWhole) (x : Vec F s e) {o : Fin s.rank → ℕ}
    (inb : ∀ a, o a + s.size a ≤ s.size a) : m.view.readAt (Elt F) (Rect.unit (s := s) o s.size inb).toLoadRect (hm.unread x) = x := by
  rw [View.readAt_full, hm.read_unread]

/-- The two seed words. -/
theorem load_seed (m : Memref sig κ sp S2 .i32) (hm : m.IsWhole) (x : Vec F S2 .i32) (t : ℕ) (ht : t < 2)
    (inb : ∀ a, (![t] : Fin 1 → ℕ) a + S1.size a ≤ S2.size a) (y : S1.Idx) :
    m.view.readAt (Elt F) (Rect.unit (s := S2) ![t] S1.size inb).toLoadRect (hm.unread x) y = x (ix1 (⟨t, ht⟩ : Fin 2)) := by
  rw [View.readAt_eq_ld, hm.read_unread]
  refine congrArg x (funext fun a => Fin.ext ?_)
  have ha : a = 0 := Subsingleton.elim _ _
  subst ha
  have : (y 0).val < 1 := (y 0).isLt
  show t + 1 * (y 0).val = t
  omega

/-- The products of a chunk, from its loads. -/
theorem chunkY_of (x1 : Vec F S512x512 .bf16) (x2 : Vec F S1x768x512 .bf16) (n : ℕ) (h : n < 6) {a0 a1 a2 a3 : Vec F S1x32x512 .bf16}
    {i0 i1 i2 i3 : Vec F S1x512 .f32} {q : Vec F S512x512 .bf16}
    (e0 : a0 = rowsX x2 (128 * n) (by omega)) (d0 : i0 = rowI (invV x2) (4 * n) (by omega))
    (e1 : a1 = rowsX x2 (128 * n + 32) (by omega)) (d1 : i1 = rowI (invV x2) (4 * n + 1) (by omega))
    (e2 : a2 = rowsX x2 (128 * n + 64) (by omega)) (d2 : i2 = rowI (invV x2) (4 * n + 2) (by omega))
    (e3 : a3 = rowsX x2 (128 * n + 96) (by omega)) (d3 : i3 = rowI (invV x2) (4 * n + 3) (by omega)) (eq : q = x1) :
    dotV (scaled a0 i0) (scaled a1 i1) (scaled a2 i2) (scaled a3 i3) q = chunkY x1 x2 n h := by
  subst e0 d0 e1 d1 e2 d2 e3 d3 eq; rfl

theorem wordAt_congr (b j : ℕ) (x0 : Vec F S2 .i32) (x1 : Vec F S512x512 .bf16) (x2 : Vec F S1x768x512 .bf16) {n n' : ℕ} (hn : n < 6)
    (hn' : n' < 6) {h h' : Fin 64} {l l' : Fin 128} (en : n = n') (eh : h = h') (el : l = l') :
    wordAt b j x0 x1 x2 n hn h l = wordAt b j x0 x1 x2 n' hn' h' l' := by
  subst en eh el; rfl

/-- A load of every second row of a chunk's code words. -/
theorem load_alternate (v : View sig κ sp S128x128 .i32) (f : v.ty.Contents (Elt F)) (p : ℕ) (hp : p < 2)
    (inb : ∀ a, S64x128.size a = 0 ∨ (![p, 0] : Fin 2 → Nat) a + (![2, 1] : Fin 2 → Nat) a * (S64x128.size a - 1) < S128x128.size a)
    (x : S64x128.Idx) :
    v.readAt (Elt F) (⟨![p, 0], S64x128.size, ![2, 1], inb⟩ : LoadRect S128x128) f x
      = v.read (Elt F) f (ix2 (⟨2 * (x 0).val + p, by have : (x 0).val < 64 := (x 0).isLt; omega⟩ : Fin 128) (x 1 : Fin 128)) := by
  refine congrArg (v.read (Elt F) f) (funext fun a => Fin.ext ?_)
  revert a; rw [Fin.forall_fin_two]
  refine ⟨?_, ?_⟩
  · show p + 2 * (x 0).val = 2 * (x 0).val + p; omega
  · show 0 + 1 * (x 1).val = (x 1).val; omega

/-- The words of a chunk, from the loads of the even and the odd rows of its code words. -/
theorem word_of (v : View sig κ sp S128x128 .i32) (f : v.ty.Contents (Elt F)) (b j : ℕ) (x0 : Vec F S2 .i32) (x1 : Vec F S512x512 .bf16)
    (x2 : Vec F S1x768x512 .bf16) (n : ℕ) (hn : n < 6) {k0 k1 : BitVec 32} {Y : Vec F S128x512 .f32}
    (h : v.read (Elt F) f = fun x => nibAt (128 * n) b j k0 k1 Y (x 0) (x 1))
    (hk0 : k0 = x0 (ix1 (0 : Fin 2))) (hk1 : k1 = x0 (ix1 (1 : Fin 2))) (hY : Y = chunkY x1 x2 n hn)
    (inb0 : ∀ a, S64x128.size a = 0 ∨ (![0, 0] : Fin 2 → Nat) a + (![2, 1] : Fin 2 → Nat) a * (S64x128.size a - 1) < S128x128.size a)
    (inb1 : ∀ a, S64x128.size a = 0 ∨ (![1, 0] : Fin 2 → Nat) a + (![2, 1] : Fin 2 → Nat) a * (S64x128.size a - 1) < S128x128.size a)
    (inb : ∀ a, (![64 * n, 0] : Fin 2 → ℕ) a + S64x128.size a ≤ S384x128.size a) (x : S64x128.Idx) :
    k0_pay567 (F := F) (v.readAt (Elt F) (⟨![0, 0], S64x128.size, ![2, 1], inb0⟩ : LoadRect S128x128) f)
        (v.readAt (Elt F) (⟨![1, 0], S64x128.size, ![2, 1], inb1⟩ : LoadRect S128x128) f) x
      = wordsV b j x0 x1 x2 ((Rect.unit (s := S384x128) ![64 * n, 0] S64x128.size inb).emb x) := by
  subst hk0 hk1 hY
  have hx : (x 0).val < 64 := (x 0).isLt
  have e0 : (((Rect.unit (s := S384x128) ![64 * n, 0] S64x128.size inb).emb x) 0).val = 64 * n + (x 0).val := by
    show 64 * n + 1 * (x 0).val = _; omega
  show shapeCast S64x128 (ori _ (shli _ (broadcast S64x128 4#32))) _ x = _
  rw [shapeCast_self]
  show v.readAt (Elt F) (⟨![0, 0], S64x128.size, ![2, 1], inb0⟩ : LoadRect S128x128) f x
    ||| (v.readAt (Elt F) (⟨![1, 0], S64x128.size, ![2, 1], inb1⟩ : LoadRect S128x128) f x) <<< 4 = _
  rw [load_alternate v f 0 (by decide), load_alternate v f 1 (by decide), h]
  refine (wordAt_congr b j x0 x1 x2 hn _ (h := (⟨(x 0).val, hx⟩ : Fin 64)) (l := x 1) ?_ (Fin.ext ?_) (Fin.ext ?_))
  · rw [e0]; omega
  · show (x 0).val = _ % 64
    rw [e0]; omega
  · show (x 1).val = 0 + 1 * (x 1).val; omega

/-- The six chunks' pieces fill the word buffer. -/
theorem words_of (v : View sig κ sp S384x128 .i32) (f : v.ty.Contents (Elt F)) (G : S384x128.Idx → BitVec 32) {o : Fin 2 → ℕ}
    (inbo : ∀ a, o a + S384x128.size a ≤ S384x128.size a) (w0 w1 w2 w3 w4 w5 : S64x128.Idx → BitVec 32)
    (i0 : ∀ a, (![0, 0] : Fin 2 → ℕ) a + S64x128.size a ≤ S384x128.size a)
    (i1 : ∀ a, (![64, 0] : Fin 2 → ℕ) a + S64x128.size a ≤ S384x128.size a)
    (i2 : ∀ a, (![128, 0] : Fin 2 → ℕ) a + S64x128.size a ≤ S384x128.size a)
    (i3 : ∀ a, (![192, 0] : Fin 2 → ℕ) a + S64x128.size a ≤ S384x128.size a)
    (i4 : ∀ a, (![256, 0] : Fin 2 → ℕ) a + S64x128.size a ≤ S384x128.size a)
    (i5 : ∀ a, (![320, 0] : Fin 2 → ℕ) a + S64x128.size a ≤ S384x128.size a)
    (h0 : ∀ x, w0 x = G ((Rect.unit (s := S384x128) ![0, 0] S64x128.size i0).emb x))
    (h1 : ∀ x, w1 x = G ((Rect.unit (s := S384x128) ![64, 0] S64x128.size i1).emb x))
    (h2 : ∀ x, w2 x = G ((Rect.unit (s := S384x128) ![128, 0] S64x128.size i2).emb x))
    (h3 : ∀ x, w3 x = G ((Rect.unit (s := S384x128) ![192, 0] S64x128.size i3).emb x))
    (h4 : ∀ x, w4 x = G ((Rect.unit (s := S384x128) ![256, 0] S64x128.size i4).emb x))
    (h5 : ∀ x, w5 x = G ((Rect.unit (s := S384x128) ![320, 0] S64x128.size i5).emb x)) :
    v.readAt (Elt F) (Rect.unit (s := S384x128) o S384x128.size inbo).toLoadRect (v.writes (Elt F) f
      [⟨Rect.unit (s := S384x128) ![320, 0] S64x128.size i5, w5⟩,
        ⟨Rect.unit (s := S384x128) ![256, 0] S64x128.size i4, w4⟩,
        ⟨Rect.unit (s := S384x128) ![192, 0] S64x128.size i3, w3⟩,
        ⟨Rect.unit (s := S384x128) ![128, 0] S64x128.size i2, w2⟩,
        ⟨Rect.unit (s := S384x128) ![64, 0] S64x128.size i1, w1⟩,
        ⟨Rect.unit (s := S384x128) ![0, 0] S64x128.size i0, w0⟩]) = G := by
  rw [View.readAt_full]
  funext y
  refine View.read_writes_apply_of_pieces v f G _ ?_ y ?_
  · intro p h
    simp only [List.mem_cons, List.not_mem_nil, or_false] at h
    rcases h with rfl | rfl | rfl | rfl | rfl | rfl
    exacts [h5, h4, h3, h2, h1, h0]
  · have hy : (y 0).val < 384 := (y 0).isLt
    have hy1 : (y 1).val < 128 := (y 1).isLt
    have hmem : ∀ (r : ℕ) (inb : ∀ a, (![r, 0] : Fin 2 → ℕ) a + S64x128.size a ≤ S384x128.size a), r ≤ (y 0).val → (y 0).val < r + 64 →
        y ∈ (Rect.unit (s := S384x128) ![r, 0] S64x128.size inb).set := fun r inb h1 h2 => by
      rw [Rect.mem_set_unit]
      intro a; revert a; rw [Fin.forall_fin_two]
      exact ⟨⟨h1, h2⟩, ⟨Nat.zero_le _, by show (y 1).val < 0 + 128; omega⟩⟩
    have hc : (y 0).val < 64 ∨ (64 ≤ (y 0).val ∧ (y 0).val < 128) ∨ (128 ≤ (y 0).val ∧ (y 0).val < 192) ∨ (192 ≤ (y 0).val ∧ (y 0).val < 256)
        ∨ (256 ≤ (y 0).val ∧ (y 0).val < 320) ∨ 320 ≤ (y 0).val := by omega
    rcases hc with c | c | c | c | c | c
    · exact ⟨⟨Rect.unit (s := S384x128) ![0, 0] S64x128.size i0, w0⟩, by simp, hmem 0 i0 (by omega) (by omega)⟩
    · exact ⟨⟨Rect.unit (s := S384x128) ![64, 0] S64x128.size i1, w1⟩, by simp, hmem 64 i1 (by omega) (by omega)⟩
    · exact ⟨⟨Rect.unit (s := S384x128) ![128, 0] S64x128.size i2, w2⟩, by simp, hmem 128 i2 (by omega) (by omega)⟩
    · exact ⟨⟨Rect.unit (s := S384x128) ![192, 0] S64x128.size i3, w3⟩, by simp, hmem 192 i3 (by omega) (by omega)⟩
    · exact ⟨⟨Rect.unit (s := S384x128) ![256, 0] S64x128.size i4, w4⟩, by simp, hmem 256 i4 (by omega) (by omega)⟩
    · exact ⟨⟨Rect.unit (s := S384x128) ![320, 0] S64x128.size i5, w5⟩, by simp, hmem 320 i5 (by omega) (by omega)⟩

end Loads

end Cert.KernelIdeal.Body

end
-- ==== Proof.Expo.lean ====
/- THE GROUP EXPONENT, ON SCALARS AND OVER THE REALS: the kernel finds it by a binary search over powers of two, the reference by
   a quotient of logarithms; both give the largest power of two under the group's greatest magnitude. -/
module

public import Idealize.ShloMosaic.PureOps
public import Idealize.ShloMosaic.Lib.IdealHost

@[expose] public section

noncomputable section

namespace Cert.Expo

open Idealize.ShloMosaic

/-! ## Powers of two as patterns -/

/-- The pattern of biased exponent `n` and no fraction denotes `2 ^ (n - 127)`. -/
theorem ofBits_pow (n : ℕ) (h0 : 0 < n) (h1 : n < 255) :
    Ideal.ofBits .f32 (BitVec.ofNat 32 n <<< 23) = (((2 : ℝ) ^ ((n : ℤ) - 127) : ℝ) : EReal) := by
  have e1 : ((BitVec.ofNat 32 n <<< 23).extractLsb' 23 8).toNat = n := by
    simp [BitVec.extractLsb'_toNat, BitVec.toNat_shiftLeft, Nat.shiftLeft_eq, Nat.shiftRight_eq_div_pow]; omega
  have e2 : ((BitVec.ofNat 32 n <<< 23).extractLsb' 0 23).toNat = 0 := by
    simp [BitVec.extractLsb'_toNat, BitVec.toNat_shiftLeft, Nat.shiftLeft_eq, Nat.shiftRight_eq_div_pow]
  have e3 : (BitVec.ofNat 32 n <<< 23).extractLsb' 31 1 = 0#1 := by
    apply BitVec.eq_of_toNat_eq
    simp [BitVec.extractLsb'_toNat, BitVec.toNat_shiftLeft, Nat.shiftLeft_eq, Nat.shiftRight_eq_div_pow]; omega
  simp only [Ideal.ofBits, Ideal.ieee, e1, e2, e3]
  rw [if_neg (by norm_num; omega), if_neg (by omega)]
  refine congrArg _ ?_
  have h2 : (1 : ℝ) * ((2 ^ 23 + 0 : ℕ) : ℝ) = (2 : ℝ) ^ (23 : ℤ) := by norm_num
  have h3 : (if (0#1 == 1#1) = true then (-1 : ℝ) else 1) = 1 := if_neg (by decide)
  rw [h3, h2, ← zpow_add₀ (by norm_num : (2 : ℝ) ≠ 0)]
  refine congrArg _ ?_
  norm_num

theorem ofBits_pow_top : Ideal.ofBits .f32 (BitVec.ofNat 32 255 <<< 23) = ⊤ := by
  simp [Ideal.ofBits, Ideal.ieee]

theorem ofBits_pow_zero : Ideal.ofBits .f32 (BitVec.ofNat 32 0 <<< 23) = 0 := by
  simp [Ideal.ofBits, Ideal.ieee]

/-! ## The binary search -/

/-- One step of the search: take the bit `d` if the power of two it makes is at most `a`. -/
def searchStep (a : Ideal .f32) (ex d : BitVec 32) : BitVec 32 :=
  if Ideal.cmp .oge a (Ideal.ofBits .f32 (IntOp.shli .vector (ex + d) 23#32)) = 1#1 then ex + d else ex

/-- The search, from the top bit down. -/
def search (a : Ideal .f32) : BitVec 32 :=
  searchStep a (searchStep a (searchStep a (searchStep a (searchStep a (searchStep a (searchStep a (searchStep a 0#32 128#32) 64#32) 32#32)
    16#32) 8#32) 4#32) 2#32) 1#32

/-- `n` is the search's answer when the powers of two that are at most `a` are those of biased exponent at most `n`. -/
def Below (a : EReal) (E : ℕ) : Prop := ∀ n : ℕ, n < 256 → (Ideal.ofBits .f32 (BitVec.ofNat 32 n <<< 23) ≤ a ↔ n ≤ E)

theorem searchStep_eq {a : EReal} {E : ℕ} (h : Below a E) (m d m' : ℕ) (hd : m + d < 256) (hm : m' = if m + d ≤ E then m + d else m) :
    searchStep a (BitVec.ofNat 32 m) (BitVec.ofNat 32 d) = BitVec.ofNat 32 m' := by
  have e : BitVec.ofNat 32 m + BitVec.ofNat 32 d = BitVec.ofNat 32 (m + d) := (BitVec.ofNat_add m d).symm
  have hs : IntOp.shli .vector (BitVec.ofNat 32 (m + d)) 23#32 = BitVec.ofNat 32 (m + d) <<< 23 := by
    simp [IntOp.shli]
  unfold searchStep
  rw [e, hs]
  have hc : (Ideal.cmp .oge a (Ideal.ofBits .f32 (BitVec.ofNat 32 (m + d) <<< 23)) = 1#1) ↔ m + d ≤ E := by
    rw [← h (m + d) hd]
    show BitVec.ofBool (decide _) = 1#1 ↔ _
    by_cases hx : Ideal.ofBits .f32 (BitVec.ofNat 32 (m + d) <<< 23) ≤ a <;> simp [hx]
  by_cases hE : m + d ≤ E
  · rw [if_pos (hc.2 hE), hm, if_pos hE]
  · rw [if_neg (fun hx => hE (hc.1 hx)), hm, if_neg hE]

/-- The search finds the exponent. -/
theorem search_eq {a : EReal} {E : ℕ} (h : Below a E) (hE : E < 256) : search a = BitVec.ofNat 32 E := by
  unfold search
  rw [show (0#32 : BitVec 32) = BitVec.ofNat 32 0 from rfl,
    searchStep_eq h 0 128 (E / 128 * 128) (by omega) (by split_ifs <;> omega),
    searchStep_eq h (E / 128 * 128) 64 (E / 64 * 64) (by omega) (by split_ifs <;> omega),
    searchStep_eq h (E / 64 * 64) 32 (E / 32 * 32) (by omega) (by split_ifs <;> omega),
    searchStep_eq h (E / 32 * 32) 16 (E / 16 * 16) (by omega) (by split_ifs <;> omega),
    searchStep_eq h (E / 16 * 16) 8 (E / 8 * 8) (by omega) (by split_ifs <;> omega),
    searchStep_eq h (E / 8 * 8) 4 (E / 4 * 4) (by omega) (by split_ifs <;> omega),
    searchStep_eq h (E / 4 * 4) 2 (E / 2 * 2) (by omega) (by split_ifs <;> omega),
    searchStep_eq h (E / 2 * 2) 1 E (by omega) (by split_ifs <;> omega)]

/-! ## A magnitude and its exponent -/

/-- `a` is a real number between `2 ^ k` and `2 ^ (k + 1)`, of an exponent the formats have. -/
structure Mag (a : EReal) (r : ℝ) (k : ℤ) : Prop where
  eq : a = (r : EReal)
  le : (2 : ℝ) ^ k ≤ r
  lt : r < (2 : ℝ) ^ (k + 1)
  lo : -125 ≤ k
  hi : k ≤ 127

theorem Mag.pos {a : EReal} {r : ℝ} {k : ℤ} (h : Mag a r k) : 0 < r := lt_of_lt_of_le (by positivity) h.le

theorem Mag.ne_zero {a : EReal} {r : ℝ} {k : ℤ} (h : Mag a r k) : a ≠ 0 := by
  rw [h.eq]; exact_mod_cast h.pos.ne'

theorem Mag.below {a : EReal} {r : ℝ} {k : ℤ} (h : Mag a r k) : Below a (k + 127).toNat := by
  intro n hn
  have hlo := h.lo
  have hhi := h.hi
  rcases Nat.eq_zero_or_pos n with rfl | h0
  · rw [ofBits_pow_zero, h.eq]
    exact ⟨fun _ => Nat.zero_le _, fun _ => by exact_mod_cast h.pos.le⟩
  by_cases h1 : n = 255
  · subst h1
    rw [ofBits_pow_top, h.eq]
    constructor
    · intro hx; exact absurd (top_le_iff.1 hx) (EReal.coe_ne_top r)
    · intro hx; omega
  · rw [ofBits_pow n h0 (by omega), h.eq, EReal.coe_le_coe_iff]
    constructor
    · intro hx
      have : (2 : ℝ) ^ ((n : ℤ) - 127) < (2 : ℝ) ^ (k + 1) := lt_of_le_of_lt hx h.lt
      have := (zpow_lt_zpow_iff_right₀ (by norm_num : (1 : ℝ) < 2)).1 this
      omega
    · intro hx
      refine le_trans ?_ h.le
      exact (zpow_le_zpow_iff_right₀ (by norm_num : (1 : ℝ) < 2)).2 (by omega)

theorem Mag.search {a : EReal} {r : ℝ} {k : ℤ} (h : Mag a r k) : search a = BitVec.ofNat 32 (k + 127).toNat :=
  search_eq h.below (by have := h.lo; have := h.hi; omega)

theorem below_zero : Below 0 0 := by
  intro n hn
  rcases Nat.eq_zero_or_pos n with rfl | h0
  · rw [ofBits_pow_zero]; exact ⟨fun _ => le_refl _, fun _ => le_refl _⟩
  by_cases h1 : n = 255
  · subst h1
    rw [ofBits_pow_top]
    constructor
    · intro hx; exact absurd (top_le_iff.1 hx) (by simp)
    · intro hx; omega
  · rw [ofBits_pow n h0 (by omega)]
    constructor
    · intro hx
      have : (2 : ℝ) ^ ((n : ℤ) - 127) ≤ 0 := by exact_mod_cast hx
      exact absurd this (not_le.2 (by positivity))
    · intro hx; omega

theorem search_zero : search 0 = 0#32 := search_eq below_zero (by omega)

/-- What the precondition says of one group's greatest magnitude. -/
def Good (a : EReal) : Prop :=
  a = 0 ∨ (Ideal.ofBits .f32 0x01000000#32 ≤ a ∧ a ≤ Ideal.ofBits .f32 0x7F7F0000#32)

/-- A good magnitude is zero or a real number with an exponent. -/
theorem Good.cases {a : EReal} (h : Good a) : a = 0 ∨ ∃ (r : ℝ) (k : ℤ), Mag a r k := by
  rcases h with h | ⟨h1, h2⟩
  · exact Or.inl h
  · right
    have e1 : Ideal.ofBits .f32 0x01000000#32 = (((2 : ℝ) ^ (-125 : ℤ) : ℝ) : EReal) := ofBits_pow 2 (by omega) (by omega)
    have e2 : Ideal.ofBits .f32 0x7F7F0000#32 < (((2 : ℝ) ^ (128 : ℤ) : ℝ) : EReal) := by
      have f1 : ((0x7F7F0000#32).extractLsb' 23 8).toNat = 254 := by decide
      have f2 : ((0x7F7F0000#32).extractLsb' 0 23).toNat = 8323072 := by decide
      have f3 : (0x7F7F0000#32).extractLsb' 31 1 = 0#1 := by decide
      simp only [Ideal.ofBits, Ideal.ieee, f1, f2, f3]
      rw [if_neg (by norm_num), if_neg (by norm_num)]
      refine EReal.coe_lt_coe_iff.2 ?_
      norm_num
    rw [e1] at h1
    have h3 := lt_of_le_of_lt h2 e2
    induction a using EReal.rec with
    | bot => simp at h1
    | top => exact absurd h3 (by simp)
    | coe r =>
      rw [EReal.coe_le_coe_iff] at h1
      rw [EReal.coe_lt_coe_iff] at h3
      have hr : 0 < r := lt_of_lt_of_le (by positivity) h1
      obtain ⟨k, ha, hb⟩ := exists_mem_Ico_zpow hr (by norm_num : (1 : ℝ) < 2)
      refine ⟨r, k, rfl, ha, hb, ?_, ?_⟩
      · have := (zpow_lt_zpow_iff_right₀ (by norm_num : (1 : ℝ) < 2)).1 (lt_of_le_of_lt h1 hb)
        omega
      · have := (zpow_lt_zpow_iff_right₀ (by norm_num : (1 : ℝ) < 2)).1 (lt_of_le_of_lt ha h3)
        omega

/-- The reference's quotient of logarithms, rounded down, is the exponent. -/
theorem Mag.log {a : EReal} {r : ℝ} {k : ℤ} (h : Mag a r k) :
    Ideal.liftRound Int.floor (Ideal.div (Ideal.log a) (Ideal.log (Ideal.ofBits .f32 0x40000000#32))) = (((k : ℤ) : ℝ) : EReal) := by
  have e2 : Ideal.ofBits .f32 0x40000000#32 = ((2 : ℝ) : EReal) := by
    rw [show (0x40000000#32 : BitVec 32) = BitVec.ofNat 32 128 <<< 23 from by decide, ofBits_pow 128 (by omega) (by omega)]
    norm_num
  have hl2 : Real.log 2 ≠ 0 := (Real.log_pos (by norm_num)).ne'
  rw [e2, h.eq, Ideal.log_coe, Ideal.log_coe, if_neg (not_le.2 h.pos), if_neg (by norm_num), Ideal.div_coe hl2]
  rw [← EReal.coe_mul, mul_one_div, Ideal.liftRound_coe]
  have hk : ⌊Real.log r / Real.log 2⌋ = k := by
    rw [Int.floor_eq_iff, le_div_iff₀ (Real.log_pos (by norm_num)), div_lt_iff₀ (Real.log_pos (by norm_num))]
    constructor
    · rw [← Real.log_zpow]; exact Real.log_le_log (by positivity) h.le
    · have := Real.log_lt_log h.pos h.lt
      rw [Real.log_zpow] at this
      push_cast at this
      exact this
  rw [hk]

end Cert.Expo

end
-- ==== Proof.Reference.lean ====
/- THE REFERENCE'S RESULTS READ AT AN INDEX: its arrays named one by one, then each result's element as a scalar function of the
   group's greatest magnitude, the element and the random word. -/
module

public import proofs.«01_k».proof.Proof.Expo
public import proofs.«01_k».proof.Proof.Gen.ReferenceIdeal.Step
public import Idealize.ShloMosaic.Lib.Pipeline.Value
public import Idealize.ShloMosaic.Lib.ValueIdxCoords
public import Idealize.ShloMosaic.Lib.Pointwise.ElementwiseCore

@[expose] public section

set_option maxRecDepth 16384

noncomputable section

namespace Cert.ReferenceIdeal.Read

open Idealize.ShloMosaic Idealize.ShloMosaic.ValueIdx Idealize.ShloMosaic.TcCoe Cert.ReferenceIdeal Cert.ReferenceIdeal.Gen Cert.ReferenceIdeal.Step

abbrev X := FVec Ideal S2x768x16384 .bf16

/-! ## The arrays -/

/-- The input, one lane of four columns at a time, in groups of 32 rows. -/
def grp (x : X) : FVec Ideal S4x2x24x32x4096 .f32 :=
  shapeCast _ (extf .f32 (transpose S4x2x768x4096 [3, 0, 1, 2] (shapeCast S2x768x4096x4 x shapeCasts_S2x768x16384_S2x768x4096x4) transposes_S2x768x4096x4_S4x2x768x4096_3_0_1_2) bitsLt_bf16_f32) shapeCasts_S4x2x768x4096_S4x2x24x32x4096

/-- The groups' greatest magnitudes. -/
def amax (x : X) : FVec Ideal S4x2x24x4096 .f32 :=
  Host.reduce FloatOps.maximumf (Host.absf (grp x)) (constant S_ .f32 0xFF800000#32) reducesTo_S4x2x24x32x4096_S4x2x24x4096_d3 h_S_

/-- The groups' exponents, from their greatest magnitudes. -/
def expo (a : FVec Ideal S4x2x24x4096 .f32) : IVec S4x2x24x4096 32 :=
  select (cmpf .oeq a (broadcastInDim S4x2x24x4096 ![] bcast_S_S4x2x24x4096 (constant S_ .f32 0x00000000#32)))
    (broadcastInDim S4x2x24x4096 ![] bcast_S_S4x2x24x4096 (id (constantI S_ 32 0#32)))
    (subi (fptosi 32 (Host.floor (Host.divf (Host.log a) (broadcastInDim S4x2x24x4096 ![] bcast_S_S4x2x24x4096 (Host.log (constant S_ .f32 0x40000000#32))))))
      (broadcastInDim S4x2x24x4096 ![] bcast_S_S4x2x24x4096 (constantI S_ 32 2#32)))

theorem scales_eq (s : State Ideal) (x : X) : R_main_v104 s x
    = shapeCast S2x16384x24 (transpose S2x4096x4x24 [1, 3, 0, 2] (trunci 8 (addi (expo (amax x))
        (broadcastInDim S4x2x24x4096 ![] bcast_S_S4x2x24x4096 (constantI S_ 32 127#32))) natLt_8_32) transposes_S4x2x24x4096_S2x4096x4x24_1_3_0_2)
      shapeCasts_S2x4096x4x24_S2x16384x24 := rfl

/-- Widening is the identity at `Ideal`. -/
theorem extf_id {s : Shape} {φ ψ : FTy} (x : FVec Ideal s φ) (h : φ.bits < ψ.bits) : (extf ψ x h : FVec Ideal s ψ) = x := rfl

/-! ## Scalars -/

/-- A group's exponent. -/
def expoS (a : EReal) : BitVec 32 :=
  if Ideal.cmp .oeq a (Ideal.ofBits .f32 0x00000000#32) = 1#1 then 0#32
  else Ideal.fptosi 32 (Ideal.liftRound Int.floor (Ideal.div (Ideal.log a) (Ideal.log (Ideal.ofBits .f32 0x40000000#32)))) - 2#32

theorem expo_apply (a : FVec Ideal S4x2x24x4096 .f32) (i : S4x2x24x4096.Idx) : expo a i = expoS (a i) := rfl

/-- The greatest magnitude of the group `g` of column `d` in batch `b`. -/
def amaxAt (x : X) (b : Fin 2) (g : Fin 24) (d : Fin 16384) : EReal :=
  (Finset.univ : Finset (Fin 32)).fold max (Ideal.ofBits .f32 0xFF800000#32)
    fun h => max (x (ix3 b (⟨32 * g.val + h.val, by omega⟩ : Fin 768) d)) (-x (ix3 b (⟨32 * g.val + h.val, by omega⟩ : Fin 768) d))

theorem grp_at (x : X) (l : Fin 4) (b : Fin 2) (g : Fin 24) (h : Fin 32) (k : Fin 4096) :
    grp x (ix5 l b g h k) = x (ix3 b (⟨32 * g.val + h.val, by omega⟩ : Fin 768) (⟨4 * k.val + l.val, by omega⟩ : Fin 16384)) := by
  unfold grp
  rw [shapeCast_apply (s := S4x2x768x4096) _ _ (ix5 l b g h k) (ix4 l b (⟨32 * g.val + h.val, by omega⟩ : Fin 768) k) (by
    rw [Shape.rowMajor_val_four, Shape.rowMajor_val_five]
    show ((l.val * 2 + b.val) * 768 + (32 * g.val + h.val)) * 4096 + k.val = (((l.val * 2 + b.val) * 24 + g.val) * 32 + h.val) * 4096 + k.val
    omega)]
  rw [extf_id]
  refine (transpose_apply (s := S2x768x4096x4) [3, 0, 1, 2] _ _ _ (ix4 b (⟨32 * g.val + h.val, by omega⟩ : Fin 768) k l) (fun a => by
    revert a; rw [Fin.forall_fin_succ, Fin.forall_fin_succ, Fin.forall_fin_two]; exact ⟨rfl, rfl, rfl, rfl⟩)).trans ?_
  exact shapeCast_apply (s := S2x768x16384) _ _ _ _ (by
    rw [Shape.rowMajor_val_four, Shape.rowMajor_val_three]
    show (b.val * 768 + (32 * g.val + h.val)) * 16384 + (4 * k.val + l.val) = ((b.val * 768 + (32 * g.val + h.val)) * 4096 + k.val) * 4 + l.val
    omega)

theorem maximum_eq (G : FVec Ideal S4x2x24x32x4096 .f32) (i : S4x2x24x4096.Idx) :
    Host.reduce FloatOps.maximumf (Host.absf G) (constant S_ .f32 0xFF800000#32) reducesTo_S4x2x24x32x4096_S4x2x24x4096_d3 h_S_ i
      = (Finset.univ : Finset (Fin 32)).fold max (Ideal.ofBits .f32 0xFF800000#32)
        fun h => max (G (ix5 (i 0) (i 1) (i 2) h (i 3))) (-G (ix5 (i 0) (i 1) (i 2) h (i 3))) := by
  have h := Host.reduce_eq_fold_single (α := EReal) (a := (3 : Fin 5)) (max : EReal → EReal → EReal) (Host.absf G : FVec Ideal S4x2x24x32x4096 .f32)
    (constant S_ .f32 0xFF800000#32 : FVec Ideal S_ .f32) reducesTo_S4x2x24x32x4096_S4x2x24x4096_d3 (by decide) h_S_ i
  refine Eq.trans h (congrArg ((Finset.univ : Finset (Fin 32)).fold max (Ideal.ofBits .f32 0xFF800000#32)) (funext fun h => ?_))
  have e : (Shape.Reduces.lift (by decide : S4x2x24x32x4096.Reduces [(3 : Fin 5)] S4x2x24x4096) i h) = ix5 (i 0) (i 1) (i 2) h (i 3) := by
    funext a; revert a
    rw [Fin.forall_fin_succ, Fin.forall_fin_succ, Fin.forall_fin_succ, Fin.forall_fin_two]
    exact ⟨rfl, rfl, rfl, rfl, rfl⟩
  exact congrArg (fun j => max (G j) (-G j)) e

theorem amax_at (x : X) (l : Fin 4) (b : Fin 2) (g : Fin 24) (k : Fin 4096) :
    amax x (ix4 l b g k) = amaxAt x b g (⟨4 * k.val + l.val, by omega⟩ : Fin 16384) := by
  unfold amax amaxAt
  rw [maximum_eq]
  refine congrArg ((Finset.univ : Finset (Fin 32)).fold max (Ideal.ofBits .f32 0xFF800000#32)) (funext fun h => ?_)
  exact congrArg (fun v => max v (-v)) (grp_at x l b g h k)

/-- A scale: the exponent plus the bias, as a byte. -/
def scaleS (a : EReal) : BitVec 8 := (expoS a + 127#32).setWidth 8

theorem scale_apply (e : IVec S4x2x24x4096 32) (i : S4x2x24x4096.Idx) :
    trunci 8 (addi e (broadcastInDim S4x2x24x4096 ![] bcast_S_S4x2x24x4096 (constantI S_ 32 127#32))) natLt_8_32 i = (e i + 127#32).setWidth 8 := rfl

theorem scales_at (s : State Ideal) (x : X) (b : Fin 2) (d : Fin 16384) (g : Fin 24) :
    R_main_v104 s x (ix3 b d g) = scaleS (amaxAt x b g d) := by
  rw [scales_eq]
  rw [shapeCast_apply (s := S2x4096x4x24) _ _ (ix3 b d g) (ix4 b (⟨d.val / 4, by omega⟩ : Fin 4096) (⟨d.val % 4, by omega⟩ : Fin 4) g) (by
    rw [Shape.rowMajor_val_four, Shape.rowMajor_val_three]
    show ((b.val * 4096 + d.val / 4) * 4 + d.val % 4) * 24 + g.val = (b.val * 16384 + d.val) * 24 + g.val
    omega)]
  rw [transpose_apply _ _ _ _ (ix4 (⟨d.val % 4, by omega⟩ : Fin 4) b g (⟨d.val / 4, by omega⟩ : Fin 4096)) (fun a => by
    revert a; rw [Fin.forall_fin_succ, Fin.forall_fin_succ, Fin.forall_fin_two]; exact ⟨rfl, rfl, rfl, rfl⟩)]
  rw [scale_apply, expo_apply, amax_at]
  change scaleS _ = _
  refine congrArg (fun d => scaleS (amaxAt x b g d)) (Fin.ext ?_)
  show 4 * (d.val / 4) + d.val % 4 = d.val
  omega

/-! ## The codes -/

/-- The scaled magnitudes. -/
def mag (G : FVec Ideal S4x2x24x32x4096 .f32) (e : IVec S4x2x24x4096 32) : FVec Ideal S4x2x24x32x4096 .f32 :=
  mulf (mulf (Host.absf G) (broadcastInDim S4x2x24x32x4096 ![] bcast_S_S4x2x24x32x4096 (constant S_ .f32 0x3F400000#32)))
    (broadcastInDim S4x2x24x32x4096 ![0, 1, 2, 3, 4] bcast_S4x2x24x1x4096_S4x2x24x32x4096_0_1_2_3_4
      (broadcastInDim S4x2x24x1x4096 ![0, 1, 2, 4] bcast_S4x2x24x4096_S4x2x24x1x4096_0_1_2_4
        (Host.powf (broadcastInDim S4x2x24x4096 ![] bcast_S_S4x2x24x4096 (constant S_ .f32 0x40000000#32)) (sitofp .f32 (negi e)))))

/-- The random words, one of the generator's four per lane. -/
def wrd (s : State Ideal) : IVec S4x2x24x32x4096 32 :=
  shapeCast S4x2x24x32x4096 (concatenate S4x2x768x4096 0 [⟨S1x2x768x4096, broadcastInDim S1x2x768x4096 ![1, 2, 3] bcast_S2x768x4096_S1x2x768x4096_1_2_3 s.main_v11_4⟩,
    ⟨S1x2x768x4096, broadcastInDim S1x2x768x4096 ![1, 2, 3] bcast_S2x768x4096_S1x2x768x4096_1_2_3 s.main_v11_5⟩,
    ⟨S1x2x768x4096, broadcastInDim S1x2x768x4096 ![1, 2, 3] bcast_S2x768x4096_S1x2x768x4096_1_2_3 s.main_v11_6⟩,
    ⟨S1x2x768x4096, broadcastInDim S1x2x768x4096 ![1, 2, 3] bcast_S2x768x4096_S1x2x768x4096_1_2_3 s.main_v11_7⟩]
    concatenates_S1x2x768x4096_S1x2x768x4096_S1x2x768x4096_S1x2x768x4096_S4x2x768x4096_d0) shapeCasts_S4x2x768x4096_S4x2x24x32x4096

/-- The codes with their signs, of the inputs, their scaled magnitudes and the random words. -/
def nib (G a : FVec Ideal S4x2x24x32x4096 .f32) (w : IVec S4x2x24x32x4096 32) : IVec S4x2x24x32x4096 32 :=
  let two := (broadcastInDim S4x2x24x32x4096 ![] bcast_S_S4x2x24x32x4096 (constant S_ .f32 0x40000000#32))
  let four := (broadcastInDim S4x2x24x32x4096 ![] bcast_S_S4x2x24x32x4096 (constant S_ .f32 0x40800000#32))
  let lo := Host.floor (mulf two a)
  let mid := Host.floor (subf a two)
  let idx := select (cmpf .olt a two) lo (select (cmpf .olt a four) (addf four mid) (broadcastInDim S4x2x24x32x4096 ![] bcast_S_S4x2x24x32x4096 (id (constant S_ .f32 0x40C00000#32))))
  let frac := select (cmpf .olt a two) (subf (mulf two a) lo) (select (cmpf .olt a four) (subf (subf a two) mid) (mulf (subf a four) (broadcastInDim S4x2x24x32x4096 ![] bcast_S_S4x2x24x32x4096 (constant S_ .f32 0x3F000000#32))))
  let u := mulf (uitofp .f32 (Host.shrui w (broadcastInDim S4x2x24x32x4096 ![] bcast_S_S4x2x24x32x4096 (constantI S_ 32 8#32)))) (broadcastInDim S4x2x24x32x4096 ![] bcast_S_S4x2x24x32x4096 (constant S_ .f32 0x33800000#32))
  let n := fptosi 32 (addf idx (uitofp .f32 (cmpf .olt u frac)))
  select (cmpf .olt G (broadcastInDim S4x2x24x32x4096 ![] bcast_S_S4x2x24x32x4096 (constant S_ .f32 0x00000000#32))) (ori n (broadcastInDim S4x2x24x32x4096 ![] bcast_S_S4x2x24x32x4096 (constantI S_ 32 8#32))) n

/-- Two neighbouring rows' codes in one byte. -/
def pack (q : IVec S4x2x24x32x4096 32) : IVec S2x16384x384 8 :=
  shapeCast S2x16384x384 (transpose S2x4096x4x384 [1, 3, 0, 2] (trunci 8 (ori
      (shapeCast S4x2x384x4096 (extractStridedSlice S4x2x384x1x4096 ![0, 0, 0, 0, 0] (shapeCast S4x2x384x2x4096 q shapeCasts_S4x2x24x32x4096_S4x2x384x2x4096) slices_S4x2x384x2x4096_S4x2x384x1x4096_0_0_0_0_0) shapeCasts_S4x2x384x1x4096_S4x2x384x4096)
      (Host.shli (shapeCast S4x2x384x4096 (extractStridedSlice S4x2x384x1x4096 ![0, 0, 0, 1, 0] (shapeCast S4x2x384x2x4096 q shapeCasts_S4x2x24x32x4096_S4x2x384x2x4096) slices_S4x2x384x2x4096_S4x2x384x1x4096_0_0_0_1_0) shapeCasts_S4x2x384x1x4096_S4x2x384x4096)
        (broadcastInDim S4x2x384x4096 ![] bcast_S_S4x2x384x4096 (constantI S_ 32 4#32)))) natLt_8_32) transposes_S4x2x384x4096_S2x4096x4x384_1_3_0_2) shapeCasts_S2x4096x4x384_S2x16384x384

theorem codes_eq (s : State Ideal) (x : X) : R_main_v102 s x = pack (nib (grp x) (mag (grp x) (expo (amax x))) (wrd s)) := rfl

/-- A scaled magnitude, of an element and its group's greatest magnitude. -/
def magS (v m : EReal) : EReal :=
  max v (-v) * (Ideal.ofBits .f32 0x3F400000#32) * Ideal.pow (Ideal.ofBits .f32 0x40000000#32) (((-expoS m).toInt : ℝ) : EReal)

/-- A code before its random increment. -/
def idxS (a : EReal) : EReal :=
  if Ideal.cmp .olt a (Ideal.ofBits .f32 0x40000000#32) = 1#1 then Ideal.liftRound Int.floor ((Ideal.ofBits .f32 0x40000000#32) * a)
  else if Ideal.cmp .olt a (Ideal.ofBits .f32 0x40800000#32) = 1#1 then (Ideal.ofBits .f32 0x40800000#32) + Ideal.liftRound Int.floor (a - (Ideal.ofBits .f32 0x40000000#32))
  else (Ideal.ofBits .f32 0x40C00000#32)

/-- What the random increment is drawn against. -/
def fracS (a : EReal) : EReal :=
  if Ideal.cmp .olt a (Ideal.ofBits .f32 0x40000000#32) = 1#1 then (Ideal.ofBits .f32 0x40000000#32) * a - Ideal.liftRound Int.floor ((Ideal.ofBits .f32 0x40000000#32) * a)
  else if Ideal.cmp .olt a (Ideal.ofBits .f32 0x40800000#32) = 1#1 then a - (Ideal.ofBits .f32 0x40000000#32) - Ideal.liftRound Int.floor (a - (Ideal.ofBits .f32 0x40000000#32))
  else (a - (Ideal.ofBits .f32 0x40800000#32)) * (Ideal.ofBits .f32 0x3F000000#32)

/-- A code without its sign, of the scaled magnitude and the random word. -/
def numS (a : EReal) (w : BitVec 32) : BitVec 32 :=
  Ideal.fptosi 32 (idxS a + (((Ideal.cmp .olt ((((w >>> 8).toNat : ℝ) : EReal) * (Ideal.ofBits .f32 0x33800000#32)) (fracS a)).toNat : ℝ) : EReal))

/-- A code with its sign. -/
def nibS (v a : EReal) (w : BitVec 32) : BitVec 32 :=
  if Ideal.cmp .olt v (Ideal.ofBits .f32 0x00000000#32) = 1#1 then numS a w ||| 8#32 else numS a w

theorem nib_apply (G a : FVec Ideal S4x2x24x32x4096 .f32) (w : IVec S4x2x24x32x4096 32) (i : S4x2x24x32x4096.Idx) :
    nib G a w i = nibS (G i) (a i) (w i) := rfl

theorem mag_at (G : FVec Ideal S4x2x24x32x4096 .f32) (m : FVec Ideal S4x2x24x4096 .f32) (l : Fin 4) (b : Fin 2) (g : Fin 24) (h : Fin 32)
    (k : Fin 4096) : mag G (expo m) (ix5 l b g h k) = magS (G (ix5 l b g h k)) (m (ix4 l b g k)) := by
  unfold mag
  refine congrArg (fun p : EReal => max (G (ix5 l b g h k)) (-G (ix5 l b g h k)) * (Ideal.ofBits .f32 0x3F400000#32) * p) ?_
  rw [broadcastInDim_apply _ _ _ _ (ix5 l b g (0 : Fin 1) k) (fun a => by
      revert a; rw [Fin.forall_fin_succ, Fin.forall_fin_succ, Fin.forall_fin_succ, Fin.forall_fin_two]; exact ⟨rfl, rfl, rfl, rfl, rfl⟩),
    broadcastInDim_apply _ _ _ _ (ix4 l b g k) (fun a => by
      revert a; rw [Fin.forall_fin_succ, Fin.forall_fin_succ, Fin.forall_fin_two]; exact ⟨rfl, rfl, rfl, rfl⟩)]
  rfl

/-- The generator's word `l` at batch `b`, row `r`, quad `k`. -/
def word (s : State Ideal) (l : Fin 4) (b : Fin 2) (r : Fin 768) (k : Fin 4096) : BitVec 32 :=
  (![s.main_v11_4 (ix3 b r k), s.main_v11_5 (ix3 b r k), s.main_v11_6 (ix3 b r k), s.main_v11_7 (ix3 b r k)] : Fin 4 → BitVec 32) l

theorem word_piece (v : IVec S2x768x4096 32) (b : Fin 2) (r : Fin 768) (k : Fin 4096) :
    broadcastInDim S1x2x768x4096 ![1, 2, 3] bcast_S2x768x4096_S1x2x768x4096_1_2_3 v (ix4 (0 : Fin 1) b r k) = v (ix3 b r k) :=
  broadcastInDim_apply _ _ _ _ _ (fun a => by
    revert a; rw [Fin.forall_fin_succ, Fin.forall_fin_two]; exact ⟨rfl, rfl, rfl⟩)

theorem piece_idx (l : Fin 4) (b : Fin 2) (r : Fin 768) (k : Fin 4096) :
    ∀ a : Fin 4, a ≠ 0 → ((ix4 (0 : Fin 1) b r k) a).val = ((ix4 l b r k) a).val := by
  rw [Fin.forall_fin_succ, Fin.forall_fin_succ, Fin.forall_fin_two]
  exact ⟨fun h => absurd rfl h, fun _ => rfl, fun _ => rfl, fun _ => rfl⟩

theorem wrd_at (s : State Ideal) (l : Fin 4) (b : Fin 2) (g : Fin 24) (h : Fin 32) (k : Fin 4096) :
    wrd s (ix5 l b g h k) = word s l b (⟨32 * g.val + h.val, by omega⟩ : Fin 768) k := by
  unfold wrd
  rw [shapeCast_apply (s := S4x2x768x4096) _ _ (ix5 l b g h k) (ix4 l b (⟨32 * g.val + h.val, by omega⟩ : Fin 768) k) (by
    rw [Shape.rowMajor_val_four, Shape.rowMajor_val_five]
    show ((l.val * 2 + b.val) * 768 + (32 * g.val + h.val)) * 4096 + k.val = (((l.val * 2 + b.val) * 24 + g.val) * 32 + h.val) * 4096 + k.val
    omega)]
  unfold word
  generalize (⟨32 * g.val + h.val, _⟩ : Fin 768) = r
  revert l
  rw [Fin.forall_fin_succ, Fin.forall_fin_succ, Fin.forall_fin_two]
  refine ⟨?_, ?_, ?_, ?_⟩
  · exact (concatenate_apply_piece (t := S4x2x768x4096) (0 : Fin 4) _ _ _ 0 (by show 0 < 4; decide) S1x2x768x4096 _ rfl rfl 0 rfl (ix4 (0 : Fin 1) b r k)
      (piece_idx 0 b r k) rfl).trans (word_piece _ b r k)
  · exact (concatenate_apply_piece (t := S4x2x768x4096) (0 : Fin 4) _ _ _ 1 (by show 1 < 4; decide) S1x2x768x4096 _ rfl rfl 1 rfl (ix4 (0 : Fin 1) b r k)
      (piece_idx 1 b r k) rfl).trans (word_piece _ b r k)
  · exact (concatenate_apply_piece (t := S4x2x768x4096) (0 : Fin 4) _ _ _ 2 (by show 2 < 4; decide) S1x2x768x4096 _ rfl rfl 2 rfl (ix4 (0 : Fin 1) b r k)
      (piece_idx 2 b r k) rfl).trans (word_piece _ b r k)
  · exact (concatenate_apply_piece (t := S4x2x768x4096) (0 : Fin 4) _ _ _ 3 (by show 3 < 4; decide) S1x2x768x4096 _ rfl rfl 3 rfl (ix4 (0 : Fin 1) b r k)
      (piece_idx 3 b r k) rfl).trans (word_piece _ b r k)

/-- The code at batch `b`, row `r`, column `d`. -/
def codeS (s : State Ideal) (x : X) (b : Fin 2) (r : Fin 768) (d : Fin 16384) : BitVec 32 :=
  nibS (x (ix3 b r d)) (magS (x (ix3 b r d)) (amaxAt x b (⟨r.val / 32, by omega⟩ : Fin 24) d))
    (word s (⟨d.val % 4, by omega⟩ : Fin 4) b r (⟨d.val / 4, by omega⟩ : Fin 4096))

/-- The code array at a row and a column. -/
theorem nib_at (s : State Ideal) (x : X) (b : Fin 2) (r : Fin 768) (d : Fin 16384) :
    nib (grp x) (mag (grp x) (expo (amax x))) (wrd s) (ix5 (⟨d.val % 4, by omega⟩ : Fin 4) b (⟨r.val / 32, by omega⟩ : Fin 24)
      (⟨r.val % 32, by omega⟩ : Fin 32) (⟨d.val / 4, by omega⟩ : Fin 4096)) = codeS s x b r d := by
  have er : (⟨32 * (r.val / 32) + r.val % 32, by omega⟩ : Fin 768) = r := Fin.ext (by show 32 * (r.val / 32) + r.val % 32 = r.val; omega)
  have ed : (⟨4 * (d.val / 4) + d.val % 4, by omega⟩ : Fin 16384) = d := Fin.ext (by show 4 * (d.val / 4) + d.val % 4 = d.val; omega)
  rw [nib_apply, mag_at, amax_at, grp_at, wrd_at]
  unfold codeS
  simp only [er, ed]

theorem half_at (q : IVec S4x2x24x32x4096 32) (p : ℕ) (hp : p < 2) (hs : S4x2x384x2x4096.Slices ![0, 0, 0, p, 0] S4x2x384x1x4096)
    (l : Fin 4) (b : Fin 2) (r : Fin 384) (k : Fin 4096) :
    shapeCast S4x2x384x4096 (extractStridedSlice S4x2x384x1x4096 ![0, 0, 0, p, 0] (shapeCast S4x2x384x2x4096 q
        shapeCasts_S4x2x24x32x4096_S4x2x384x2x4096) hs) shapeCasts_S4x2x384x1x4096_S4x2x384x4096 (ix4 l b r k)
      = q (ix5 l b (⟨(2 * r.val + p) / 32, by omega⟩ : Fin 24) (⟨(2 * r.val + p) % 32, by omega⟩ : Fin 32) k) := by
  rw [shapeCast_apply (s := S4x2x384x1x4096) _ _ (ix4 l b r k) (ix5 l b r (0 : Fin 1) k) (by
    rw [Shape.rowMajor_val_four, Shape.rowMajor_val_five]
    show (((l.val * 2 + b.val) * 384 + r.val) * 1 + 0) * 4096 + k.val = ((l.val * 2 + b.val) * 384 + r.val) * 4096 + k.val
    omega)]
  rw [extractStridedSlice_apply _ _ _ _ (ix5 l b r (⟨p, hp⟩ : Fin 2) k) (fun a => by
    revert a; rw [Fin.forall_fin_succ, Fin.forall_fin_succ, Fin.forall_fin_succ, Fin.forall_fin_two]
    refine ⟨?_, ?_, ?_, ?_, ?_⟩
    · show l.val = 0 + l.val; omega
    · show b.val = 0 + b.val; omega
    · show r.val = 0 + r.val; omega
    · show p = p + 0; omega
    · show k.val = 0 + k.val; omega)]
  exact shapeCast_apply (s := S4x2x24x32x4096) _ _ _ _ (by
    rw [Shape.rowMajor_val_five, Shape.rowMajor_val_five]
    show (((l.val * 2 + b.val) * 24 + (2 * r.val + p) / 32) * 32 + (2 * r.val + p) % 32) * 4096 + k.val
      = (((l.val * 2 + b.val) * 384 + r.val) * 2 + p) * 4096 + k.val
    omega)

theorem byte_apply (u v : IVec S4x2x384x4096 32) (i : S4x2x384x4096.Idx) :
    trunci 8 (ori u (Host.shli v (broadcastInDim S4x2x384x4096 ![] bcast_S_S4x2x384x4096 (constantI S_ 32 4#32)))) natLt_8_32 i
      = (u i ||| v i <<< 4).setWidth 8 := rfl

theorem codes_at (s : State Ideal) (x : X) (b : Fin 2) (d : Fin 16384) (r : Fin 384) :
    R_main_v102 s x (ix3 b d r) = (codeS s x b (⟨2 * r.val, by omega⟩ : Fin 768) d
      ||| codeS s x b (⟨2 * r.val + 1, by omega⟩ : Fin 768) d <<< 4).setWidth 8 := by
  rw [codes_eq]
  unfold pack
  rw [shapeCast_apply (s := S2x4096x4x384) _ _ (ix3 b d r) (ix4 b (⟨d.val / 4, by omega⟩ : Fin 4096) (⟨d.val % 4, by omega⟩ : Fin 4) r) (by
    rw [Shape.rowMajor_val_four, Shape.rowMajor_val_three]
    show ((b.val * 4096 + d.val / 4) * 4 + d.val % 4) * 384 + r.val = (b.val * 16384 + d.val) * 384 + r.val
    omega)]
  rw [transpose_apply _ _ _ _ (ix4 (⟨d.val % 4, by omega⟩ : Fin 4) b r (⟨d.val / 4, by omega⟩ : Fin 4096)) (fun a => by
    revert a; rw [Fin.forall_fin_succ, Fin.forall_fin_succ, Fin.forall_fin_two]; exact ⟨rfl, rfl, rfl, rfl⟩)]
  rw [byte_apply, half_at _ 0 (by decide), half_at _ 1 (by decide)]
  have h0 := nib_at s x b (⟨2 * r.val, by omega⟩ : Fin 768) d
  have h1 := nib_at s x b (⟨2 * r.val + 1, by omega⟩ : Fin 768) d
  rw [← h0, ← h1]
  rfl

end Cert.ReferenceIdeal.Read

end
-- ==== Proof.Scales.lean ====
/- THE SCALES: the kernel's block of scales and of inverse scales read at an index as functions of the group's greatest magnitude,
   and the two programs' scalar functions of it made equal. -/
module

public import proofs.«01_k».proof.Proof.Block
public import proofs.«01_k».proof.Proof.Reference

@[expose] public section

set_option maxRecDepth 16384

noncomputable section

namespace Cert.KernelIdeal.Body

open Idealize.ShloMosaic Idealize.ShloMosaic.ValueIdx Idealize.ShloMosaic.TcCoe Cert.KernelIdeal Cert.KernelIdeal.Gen Cert.Expo

abbrev XB := Vec Ideal S1x768x512 .bf16

/-- The greatest magnitude of the group `g` of the block's column `d`. -/
def amaxB (x2 : XB) (g : Fin 24) (d : Fin 512) : EReal :=
  (Finset.univ : Finset (Fin 32)).fold max (Ideal.ofBits .f32 0xFF800000#32)
    fun h => max (x2 (ix3 (0 : Fin 1) (⟨32 * g.val + h.val, by omega⟩ : Fin 768) d) : EReal)
      (-(x2 (ix3 (0 : Fin 1) (⟨32 * g.val + h.val, by omega⟩ : Fin 768) d) : EReal))

theorem group_at (x2 : XB) (g : Fin 24) (h : Fin 32) (d : Fin 512) :
    shapeCast S24x32x512 (shapeCast S768x512 x2 shapeCasts_S1x768x512_S768x512) shapeCasts_S768x512_S24x32x512 (ix3 g h d)
      = x2 (ix3 (0 : Fin 1) (⟨32 * g.val + h.val, by omega⟩ : Fin 768) d) := by
  rw [shapeCast_apply (s := S768x512) _ _ (ix3 g h d) (ix2 (⟨32 * g.val + h.val, by omega⟩ : Fin 768) d) (by
    rw [Shape.rowMajor_val_two, Shape.rowMajor_val_three]
    show (32 * g.val + h.val) * 512 + d.val = (g.val * 32 + h.val) * 512 + d.val
    omega)]
  exact shapeCast_apply (s := S1x768x512) _ _ _ _ (by
    rw [Shape.rowMajor_val_two, Shape.rowMajor_val_three]
    show (0 * 768 + (32 * g.val + h.val)) * 512 + d.val = (32 * g.val + h.val) * 512 + d.val
    omega)

theorem maximum_eq (G : FVec Ideal S24x32x512 .f32) (i : S24x512.Idx) :
    multiReduction .maximumf [1] S24x512 (absf G) 0xFF800000#32 reduces_S24x32x512_S24x512 (.inl rfl) rfl i
      = (Finset.univ : Finset (Fin 32)).fold max (Ideal.ofBits .f32 0xFF800000#32)
        fun h => max (G (ix3 (i 0) h (i 1))) (-G (ix3 (i 0) h (i 1))) := by
  have h := Ideal.multiReduction_maximumf_single (a := (1 : Fin 3)) (absf G) 0xFF800000#32 reduces_S24x32x512_S24x512 (.inl rfl) rfl i
  refine Eq.trans h (congrArg (fun f : Fin 32 → EReal => (Finset.univ : Finset (Fin 32)).fold max (Ideal.ofBits .f32 0xFF800000#32) f) (funext fun h => ?_))
  have e : (reduces_S24x32x512_S24x512).lift i h = ix3 (i 0) h (i 1) := by
    funext a; revert a
    rw [Fin.forall_fin_succ, Fin.forall_fin_two]
    exact ⟨rfl, rfl, rfl⟩
  exact congrArg (fun j => max (G j) (-G j)) e

theorem amax_at (x2 : XB) (g : Fin 24) (d : Fin 512) : k0_pay555 x2 (ix2 g d) = amaxB x2 g d := by
  refine (maximum_eq _ (ix2 g d)).trans ?_
  unfold amaxB
  refine congrArg (fun f : Fin 32 → EReal => (Finset.univ : Finset (Fin 32)).fold max (Ideal.ofBits .f32 0xFF800000#32) f) (funext fun h => ?_)
  exact congrArg (fun v : EReal => max v (-v)) (group_at x2 g h d)

/-- One step of the search, on vectors. -/
def stepV (v : FVec Ideal S24x512 .f32) (ex : IVec S24x512 32) (d : BitVec 32) : IVec S24x512 32 :=
  select (cmpf .oge v (bitcastToFloat .f32 (shli (addi ex (broadcast S24x512 d)) (broadcast S24x512 23#32)))) (addi ex (broadcast S24x512 d)) ex

theorem stepV_apply (v : FVec Ideal S24x512 .f32) (ex : IVec S24x512 32) (d : BitVec 32) (y : S24x512.Idx) :
    stepV v ex d y = searchStep (v y) (ex y) d := rfl

theorem half_search (x2 : XB) : k0_pay556 x2
    = stepV (k0_pay555 x2) (stepV (k0_pay555 x2) (stepV (k0_pay555 x2) (stepV (k0_pay555 x2) (broadcast S24x512 0#32) 128#32) 64#32) 32#32) 16#32 := rfl

theorem rest_search (x2 : XB) : k0_pay559 (k0_pay555 x2) (k0_pay556 x2) (k0_pay557 x2) (k0_pay558 x2)
    = stepV (k0_pay555 x2) (stepV (k0_pay555 x2) (stepV (k0_pay555 x2) (stepV (k0_pay555 x2) (k0_pay556 x2) 8#32) 4#32) 2#32) 1#32 := rfl

theorem search_at (x2 : XB) (y : S24x512.Idx) :
    k0_pay559 (k0_pay555 x2) (k0_pay556 x2) (k0_pay557 x2) (k0_pay558 x2) y = search (k0_pay555 x2 y) := by
  rw [rest_search, half_search]
  simp only [stepV_apply]
  rfl

/-- The kernel's scale of a group, of its greatest magnitude. -/
def scaleK (a : EReal) : BitVec 8 := (if IntOp.cmpi .eq (search a) 0#32 = 1#1 then 127#32 else search a - 2#32).setWidth 8

/-- Its inverse scale. -/
def invK (a : EReal) : EReal :=
  Ideal.ofBits .f32 (if IntOp.cmpi .eq (search a) 0#32 = 1#1 then 1065353216#32 else (256#32 - search a) <<< 23)

theorem scalesV_at (x2 : XB) (d : Fin 512) (g : Fin 24) : scalesV x2 (ix3 (0 : Fin 1) d g) = scaleK (amaxB x2 g d) := by
  unfold scalesV k0_pay560
  rw [shapeCast_apply (s := S512x24) _ _ (ix3 (0 : Fin 1) d g) (ix2 d g) (by
    rw [Shape.rowMajor_val_two, Shape.rowMajor_val_three]
    show d.val * 24 + g.val = (0 * 512 + d.val) * 24 + g.val
    omega)]
  refine (congrArg (fun v : BitVec 32 => v.setWidth 8) (transpose_apply (s := S24x512) [1, 0] _ _ (ix2 d g) (ix2 g d) (fun a => by
    revert a; rw [Fin.forall_fin_two]; exact ⟨rfl, rfl⟩))).trans ?_
  rw [← amax_at, scaleK, ← search_at]
  rfl

theorem invV_at (x2 : XB) (g : Fin 24) (d : Fin 512) : invV x2 (ix2 g d) = invK (amaxB x2 g d) := by
  unfold invV k0_pay562
  rw [shapeCast_self, ← amax_at, invK, ← search_at]
  rfl

/-! ## The two scalar functions agree -/

theorem zero_bits : Ideal.ofBits .f32 0x00000000#32 = 0 := by
  simp [Ideal.ofBits, Ideal.ieee]

theorem cmp_oeq {a b : EReal} : Ideal.cmp .oeq a b = 1#1 ↔ a = b := by
  show BitVec.ofBool (decide _) = 1#1 ↔ _
  by_cases h : a = b <;> simp [h]

open Cert.ReferenceIdeal.Read in
theorem expoS_zero : expoS 0 = 0#32 := by
  unfold expoS
  rw [if_pos (cmp_oeq.2 zero_bits.symm)]

open Cert.ReferenceIdeal.Read in
theorem expoS_mag {a : EReal} {r : ℝ} {k : ℤ} (h : Mag a r k) : expoS a = BitVec.ofInt 32 (k - 2) := by
  unfold expoS
  rw [if_neg (fun e => h.ne_zero ((cmp_oeq.1 e).trans zero_bits)), h.log]
  have e : Ideal.fptosi 32 ((k : ℝ) : EReal) = BitVec.ofInt 32 k := by
    unfold Ideal.fptosi
    rw [Ideal.toIntClamped_coe]
    have := h.lo
    have := h.hi
    refine congrArg _ ?_
    split <;> simp <;> omega
  rw [e, sub_eq_add_neg k 2, BitVec.ofInt_add, BitVec.sub_eq_add_neg]
  exact congrArg _ (by decide)

theorem search_toNat {a : EReal} {r : ℝ} {k : ℤ} (h : Mag a r k) : ¬ IntOp.cmpi .eq (search a) 0#32 = 1#1 := by
  have h1 := h.lo
  have h2 := h.hi
  rw [h.search]
  obtain ⟨n, rfl⟩ : ∃ n : ℕ, k = n - 127 := ⟨(k + 127).toNat, by omega⟩
  have e : ((n : ℤ) - 127 + 127).toNat = n := by omega
  rw [e]
  intro q
  have q' : BitVec.ofNat 32 n = 0#32 := by
    by_contra hc
    rw [show IntOp.cmpi .eq (BitVec.ofNat 32 n) 0#32 = BitVec.ofBool (BitVec.ofNat 32 n == 0#32) from rfl, beq_eq_false_iff_ne.2 hc] at q
    exact absurd q (by decide)
  have := congrArg BitVec.toNat q'
  simp at this
  omega

open Cert.ReferenceIdeal.Read in
theorem scale_eq {a : EReal} (h : Good a) : scaleK a = scaleS a := by
  rcases h.cases with rfl | ⟨r, k, h⟩
  · unfold scaleK scaleS
    rw [expoS_zero, search_zero]
    rfl
  · unfold scaleK scaleS
    rw [expoS_mag h, if_neg (search_toNat h), h.search]
    have h1 := h.lo
    have h2 := h.hi
    obtain ⟨n, rfl⟩ : ∃ n : ℕ, k = n - 127 := ⟨(k + 127).toNat, by omega⟩
    have e : ((n : ℤ) - 127 + 127).toNat = n := by omega
    rw [e]
    have e2 : BitVec.ofInt 32 ((n : ℤ) - 127 - 2) = BitVec.ofNat 32 n - 129#32 := by
      rw [show (n : ℤ) - 127 - 2 = (n : ℤ) - 129 by ring, sub_eq_add_neg, BitVec.ofInt_add, BitVec.ofInt_natCast, BitVec.sub_eq_add_neg]
      exact congrArg _ (by decide)
    rw [e2]
    congr 1
    bv_omega

/-- The inverse scale of a group of zeros. -/
theorem invK_zero : invK 0 = ((1 : ℝ) : EReal) := by
  unfold invK
  rw [search_zero, if_pos (by decide)]
  have := ofBits_pow 127 (by decide) (by decide)
  rw [show (BitVec.ofNat 32 127 <<< 23 : BitVec 32) = 1065353216#32 by decide] at this
  rw [this]; norm_num

/-- The inverse scale of any other group in range. -/
theorem invK_mag {a : EReal} {r : ℝ} {k : ℤ} (h : Mag a r k) : invK a = (((2 : ℝ) ^ (2 - k) : ℝ) : EReal) := by
  unfold invK
  rw [if_neg (search_toNat h), h.search]
  have h1 := h.lo
  have h2 := h.hi
  obtain ⟨n, rfl⟩ : ∃ n : ℕ, k = 129 - n := ⟨(129 - k).toNat, by omega⟩
  have e : (256#32 - BitVec.ofNat 32 (129 - (n : ℤ) + 127).toNat) = BitVec.ofNat 32 n := by
    have e : (129 - (n : ℤ) + 127).toNat = 256 - n := by omega
    rw [e]
    have : n ≤ 254 := by omega
    apply BitVec.eq_of_toNat_eq
    simp
    omega
  rw [e, ofBits_pow n (by omega) (by omega)]
  refine congrArg _ (congrArg _ ?_)
  omega

end Cert.KernelIdeal.Body

end
-- ==== Proof.CodeStep.lean ====
/- ONE CODE AS A NUMBER: the kernel's integer arithmetic on a product and the reference's rounding of the scaled magnitude both give the
   ceiling of `h - u`, with `h` the magnitude's place among the eight codes and `u` the random word's top 24 bits as a fraction. -/
module

public import proofs.«01_k».proof.Proof.Scales

@[expose] public section

noncomputable section

namespace Cert.CodeStep

open Idealize.ShloMosaic Cert.Expo

/-- The place of a scaled magnitude among the codes. -/
def place (a : ℝ) : ℝ := if a < 2 then 2 * a else if a < 4 then a + 2 else a / 2 + 4

/-- The random word's top 24 bits. -/
def top (w : BitVec 32) : ℕ := (w >>> 8).toNat

theorem top_lt (w : BitVec 32) : top w < 2 ^ 24 := by
  unfold top
  rw [BitVec.toNat_ushiftRight, Nat.shiftRight_eq_div_pow]
  have := w.isLt
  omega

/-- The code as an integer. -/
def num (a : ℝ) (w : BitVec 32) : ℤ := ⌈place a - (top w : ℝ) / 2 ^ 24⌉

theorem place_nonneg {a : ℝ} (h : 0 ≤ a) : 0 ≤ place a := by
  unfold place; split_ifs <;> linarith

theorem place_lt {a : ℝ} (h : a < 6) : place a < 7 := by
  unfold place; split_ifs <;> linarith

theorem frac_nonneg (w : BitVec 32) : 0 ≤ (top w : ℝ) / 2 ^ 24 := by positivity

theorem frac_lt (w : BitVec 32) : (top w : ℝ) / 2 ^ 24 < 1 := by
  rw [div_lt_one (by positivity)]
  exact_mod_cast top_lt w

theorem num_nonneg {a : ℝ} (w : BitVec 32) (h : 0 ≤ a) : 0 ≤ num a w := by
  have h1 := place_nonneg h
  have h2 := frac_lt w
  have : (-1 : ℤ) < num a w := by
    unfold num
    rw [Int.lt_ceil]
    push_cast
    linarith
  omega

theorem num_le {a : ℝ} (w : BitVec 32) (h : a < 6) : num a w ≤ 7 := by
  have h1 := place_lt h
  have h2 := frac_nonneg w
  unfold num
  rw [Int.ceil_le]
  push_cast
  linarith

/-- The ceiling as a floor and a comparison. -/
theorem ceil_sub {h p : ℝ} (f : ℤ) (hf : ⌊h⌋ = f) (p0 : 0 ≤ p) (p1 : p < 1) : ⌈h - p⌉ = f + if p < h - f then 1 else 0 := by
  have h1 := Int.floor_le h
  have h2 := Int.lt_floor_add_one h
  rw [hf] at h1 h2
  split_ifs with c
  · rw [Int.ceil_eq_iff]; push_cast; constructor <;> linarith
  · rw [Int.ceil_eq_iff]; push_cast; constructor <;> linarith

/-! ## Constants -/

theorem bits_half : Ideal.ofBits .f32 0x3F000000#32 = ((1 / 2 : ℝ) : EReal) := by
  rw [show (0x3F000000#32 : BitVec 32) = BitVec.ofNat 32 126 <<< 23 from by decide, ofBits_pow 126 (by omega) (by omega)]; norm_num
theorem bits_quarter : Ideal.ofBits .f32 0x3E800000#32 = ((1 / 4 : ℝ) : EReal) := by
  rw [show (0x3E800000#32 : BitVec 32) = BitVec.ofNat 32 125 <<< 23 from by decide, ofBits_pow 125 (by omega) (by omega)]; norm_num
theorem bits_one : Ideal.ofBits .f32 0x3F800000#32 = ((1 : ℝ) : EReal) := by
  rw [show (0x3F800000#32 : BitVec 32) = BitVec.ofNat 32 127 <<< 23 from by decide, ofBits_pow 127 (by omega) (by omega)]; norm_num
theorem bits_two : Ideal.ofBits .f32 0x40000000#32 = ((2 : ℝ) : EReal) := by
  rw [show (0x40000000#32 : BitVec 32) = BitVec.ofNat 32 128 <<< 23 from by decide, ofBits_pow 128 (by omega) (by omega)]; norm_num
theorem bits_four : Ideal.ofBits .f32 0x40800000#32 = ((4 : ℝ) : EReal) := by
  rw [show (0x40800000#32 : BitVec 32) = BitVec.ofNat 32 129 <<< 23 from by decide, ofBits_pow 129 (by omega) (by omega)]; norm_num
theorem bits_p25 : Ideal.ofBits .f32 0x4C000000#32 = (((2 : ℝ) ^ 25 : ℝ) : EReal) := by
  rw [show (0x4C000000#32 : BitVec 32) = BitVec.ofNat 32 152 <<< 23 from by decide, ofBits_pow 152 (by omega) (by omega)]; norm_num
theorem bits_p26 : Ideal.ofBits .f32 0x4C800000#32 = (((2 : ℝ) ^ 26 : ℝ) : EReal) := by
  rw [show (0x4C800000#32 : BitVec 32) = BitVec.ofNat 32 153 <<< 23 from by decide, ofBits_pow 153 (by omega) (by omega)]; norm_num
theorem bits_p27 : Ideal.ofBits .f32 0x4D000000#32 = (((2 : ℝ) ^ 27 : ℝ) : EReal) := by
  rw [show (0x4D000000#32 : BitVec 32) = BitVec.ofNat 32 154 <<< 23 from by decide, ofBits_pow 154 (by omega) (by omega)]; norm_num
theorem bits_m24 : Ideal.ofBits .f32 0x33800000#32 = ((1 / 2 ^ 24 : ℝ) : EReal) := by
  rw [show (0x33800000#32 : BitVec 32) = BitVec.ofNat 32 103 <<< 23 from by decide, ofBits_pow 103 (by omega) (by omega)]; norm_num

/-- The field pieces of a pattern that is no power of two. -/
theorem bits_six : Ideal.ofBits .f32 0x40C00000#32 = ((6 : ℝ) : EReal) := by
  have f1 : ((0x40C00000#32).extractLsb' 23 8).toNat = 129 := by decide
  have f2 : ((0x40C00000#32).extractLsb' 0 23).toNat = 4194304 := by decide
  have f3 : (0x40C00000#32).extractLsb' 31 1 = 0#1 := by decide
  simp only [Ideal.ofBits, Ideal.ieee, f1, f2, f3]
  rw [if_neg (by norm_num), if_neg (by norm_num)]
  refine congrArg _ ?_
  norm_num
theorem bits_three_quarters : Ideal.ofBits .f32 0x3F400000#32 = ((3 / 4 : ℝ) : EReal) := by
  have f1 : ((0x3F400000#32).extractLsb' 23 8).toNat = 126 := by decide
  have f2 : ((0x3F400000#32).extractLsb' 0 23).toNat = 4194304 := by decide
  have f3 : (0x3F400000#32).extractLsb' 31 1 = 0#1 := by decide
  simp only [Ideal.ofBits, Ideal.ieee, f1, f2, f3]
  rw [if_neg (by norm_num), if_neg (by norm_num)]
  refine congrArg _ ?_
  norm_num
theorem bits_place : Ideal.ofBits .f32 0x4BC00000#32 = ((3 / 4 * 2 ^ 25 : ℝ) : EReal) := by
  have f1 : ((0x4BC00000#32).extractLsb' 23 8).toNat = 151 := by decide
  have f2 : ((0x4BC00000#32).extractLsb' 0 23).toNat = 4194304 := by decide
  have f3 : (0x4BC00000#32).extractLsb' 31 1 = 0#1 := by decide
  simp only [Ideal.ofBits, Ideal.ieee, f1, f2, f3]
  rw [if_neg (by norm_num), if_neg (by norm_num)]
  refine congrArg _ ?_
  norm_num

theorem cmp_olt {a b : EReal} : Ideal.cmp .olt a b = 1#1 ↔ a < b := by
  show BitVec.ofBool (decide _) = 1#1 ↔ _
  by_cases h : a < b <;> simp [h]

theorem cmp_olt_coe {a b : ℝ} : Ideal.cmp .olt (a : EReal) (b : EReal) = 1#1 ↔ a < b := by
  rw [cmp_olt, EReal.coe_lt_coe_iff]

/-- The conversion of an integer in range. -/
theorem fptosi_int (z : ℤ) (h0 : -2147483648 ≤ z) (h1 : z ≤ 2147483647) : Ideal.fptosi 32 (((z : ℤ) : ℝ) : EReal) = BitVec.ofInt 32 z := by
  unfold Ideal.fptosi
  rw [Ideal.toIntClamped_coe]
  refine congrArg _ ?_
  split <;> simp <;> omega

/-! ## The reference -/

open Cert.ReferenceIdeal.Read in
theorem numS_eq {a : ℝ} (w : BitVec 32) (h0 : 0 ≤ a) (h6 : a < 6) : numS (a : EReal) w = BitVec.ofInt 32 (num a w) := by
  -- the code before the increment and the remainder
  obtain ⟨f, hi, hf, hh⟩ : ∃ f : ℤ, idxS (a : EReal) = (((f : ℤ) : ℝ) : EReal) ∧ fracS (a : EReal) = ((place a - f : ℝ) : EReal) ∧ ⌊place a⌋ = f := by
    unfold idxS fracS place
    rw [bits_two, bits_four, bits_six, bits_half]
    simp only [cmp_olt_coe, ← EReal.coe_mul, ← EReal.coe_sub, Ideal.liftRound_coe]
    split_ifs with c1 c2
    · exact ⟨⌊2 * a⌋, rfl, rfl, rfl⟩
    · refine ⟨4 + ⌊a - 2⌋, ?_, ?_, ?_⟩
      · rw [← EReal.coe_add]; push_cast; rfl
      · refine congrArg _ ?_; push_cast; ring
      · rw [show a + 2 = (a - 2) + (4 : ℤ) by push_cast; ring, Int.floor_add_intCast]; ring
    · refine ⟨6, by norm_num, ?_, ?_⟩
      · refine congrArg _ ?_; push_cast; ring
      · rw [Int.floor_eq_iff]; push_cast; constructor <;> linarith
  have hc : num a w = f + if (top w : ℝ) / 2 ^ 24 < place a - f then 1 else 0 := ceil_sub f hh (frac_nonneg w) (frac_lt w)
  unfold numS
  rw [hi, hf, bits_m24, ← EReal.coe_mul, ← EReal.coe_add]
  have e : (((f : ℤ) : ℝ) + (((Ideal.cmp .olt (((((w >>> 8).toNat : ℝ)) * (1 / 2 ^ 24) : ℝ) : EReal) ((place a - f : ℝ) : EReal)).toNat : ℕ) : ℝ)) = ((num a w : ℤ) : ℝ) := by
    rw [hc]
    have ht : ((w >>> 8).toNat : ℝ) * (1 / 2 ^ 24) = (top w : ℝ) / 2 ^ 24 := by unfold top; ring
    rw [ht]
    by_cases c : (top w : ℝ) / 2 ^ 24 < place a - f
    · rw [cmp_olt_coe.2 c, if_pos c]; push_cast; simp
    · have : Ideal.cmp .olt (((top w : ℝ) / 2 ^ 24 : ℝ) : EReal) ((place a - f : ℝ) : EReal) = 0#1 := by
        rcases BitVec.eq_zero_or_eq_one (Ideal.cmp .olt (((top w : ℝ) / 2 ^ 24 : ℝ) : EReal) ((place a - f : ℝ) : EReal)) with q | q
        · exact q
        · exact absurd (cmp_olt_coe.1 q) c
      rw [this, if_neg c]; simp
  rw [e]
  have := num_nonneg w h0
  have := num_le w h6
  exact fptosi_int _ (by omega) (by omega)

/-! ## The kernel -/

/-- The kernel's stand-in for twice-shifted bits, at one value. -/
def shl2S (v : EReal) : BitVec 32 :=
  Ideal.fptosi 32 (Ideal.liftRound Int.ceil (v * (if Ideal.cmp .olt v (Ideal.ofBits .f32 0x4C800000#32) = 1#1 then Ideal.ofBits .f32 0x3F800000#32
      else if Ideal.cmp .olt v (Ideal.ofBits .f32 0x4D000000#32) = 1#1 then Ideal.ofBits .f32 0x3F000000#32 else Ideal.ofBits .f32 0x3E800000#32)))
    + (if Ideal.cmp .olt v (Ideal.ofBits .f32 0x4C800000#32) = 1#1 then 771751936#32
      else if Ideal.cmp .olt v (Ideal.ofBits .f32 0x4D000000#32) = 1#1 then 805306368#32 else 838860800#32)

/-- The negated code, at one product and one random word. -/
def negS (y : EReal) (w : BitVec 32) : BitVec 32 :=
  (((w >>> 8) - Ideal.fptosi 32 (Ideal.liftRound Ideal.roundHalfEven (Ideal.liftRound Int.ceil (min (max y (-y)) (Ideal.ofBits .f32 0x4C000000#32)))))
    - shl2S (max (max y (-y)) (Ideal.ofBits .f32 0x4C000000#32))).sshiftRight 24

open Cert.KernelIdeal Cert.KernelIdeal.Body in
theorem negCode_at (y : FVec Ideal S32x128 .f32) (w : IVec S32x128 32) (i : S32x128.Idx) : negCode y w i = negS (y i) (w i) := rfl

theorem roundHalfEven_int (z : ℤ) : Ideal.roundHalfEven (z : ℝ) = z := by
  unfold Ideal.roundHalfEven
  simp

/-- The stand-in, from `2^25` to six times that. -/
theorem shl2S_eq {v : ℝ} (h0 : 2 ^ 25 ≤ v) (h1 : v < 6 * 2 ^ 25) :
    ∃ C : ℤ, shl2S (v : EReal) = BitVec.ofInt 32 C
      ∧ C = if v < 2 ^ 26 then ⌈v⌉ + 771751936 else if v < 2 ^ 27 then ⌈v / 2⌉ + 805306368 else ⌈v / 4⌉ + 838860800 := by
  refine ⟨_, ?_, rfl⟩
  have hb : ∀ z : ℝ, 0 ≤ z → z < 2 ^ 28 → Ideal.fptosi 32 ((((⌈z⌉ : ℤ) : ℝ)) : EReal) = BitVec.ofInt 32 ⌈z⌉ := fun z z0 z1 => by
    have a1 : (0 : ℤ) ≤ ⌈z⌉ := Int.ceil_nonneg z0
    have a2 : ⌈z⌉ ≤ 2 ^ 28 := by rw [Int.ceil_le]; push_cast; linarith
    exact fptosi_int _ (by omega) (by omega)
  unfold shl2S
  rw [bits_p26, bits_p27, bits_one, bits_half, bits_quarter]
  simp only [cmp_olt_coe]
  split_ifs with c1 c2
  · rw [← EReal.coe_mul, mul_one, Ideal.liftRound_coe, hb v (by linarith) (by linarith), BitVec.ofInt_add]; rfl
  · rw [← EReal.coe_mul, mul_one_div, Ideal.liftRound_coe, hb (v / 2) (by linarith) (by linarith), BitVec.ofInt_add]; rfl
  · rw [← EReal.coe_mul, mul_one_div, Ideal.liftRound_coe, hb (v / 4) (by linarith) (by linarith), BitVec.ofInt_add]; rfl

/-- The two parts that the kernel subtracts are 48 and the code's place, in units of `2^-24`. -/
theorem parts {a : ℝ} (h0 : 0 ≤ a) (h6 : a < 6) :
    ∃ X C : ℤ, Ideal.fptosi 32 (Ideal.liftRound Ideal.roundHalfEven (Ideal.liftRound Int.ceil (min ((a * 2 ^ 25 : ℝ) : EReal) (((2 : ℝ) ^ 25 : ℝ) : EReal)))) = BitVec.ofInt 32 X
      ∧ shl2S (max ((a * 2 ^ 25 : ℝ) : EReal) (((2 : ℝ) ^ 25 : ℝ) : EReal)) = BitVec.ofInt 32 C
      ∧ X + C = ⌈2 ^ 24 * place a⌉ + 48 * 2 ^ 24 := by
  obtain ⟨C, e, hC⟩ := shl2S_eq (v := max (a * 2 ^ 25) (2 ^ 25)) (le_max_right _ _) (by exact max_lt (by linarith) (by norm_num))
  refine ⟨⌈min (a * 2 ^ 25) (2 ^ 25)⌉, C, ?_, ?_, ?_⟩
  · have hm : min ((a * 2 ^ 25 : ℝ) : EReal) (((2 : ℝ) ^ 25 : ℝ) : EReal) = ((min (a * 2 ^ 25) (2 ^ 25) : ℝ) : EReal) :=
      (EReal.coe_strictMono.monotone.map_min (a := a * 2 ^ 25) (b := (2 : ℝ) ^ 25)).symm
    rw [hm, Ideal.liftRound_coe, Ideal.liftRound_coe, roundHalfEven_int]
    have a1 : (0 : ℤ) ≤ ⌈min (a * 2 ^ 25) (2 ^ 25)⌉ := Int.ceil_nonneg (le_min (by positivity) (by positivity))
    have a2 : ⌈min (a * 2 ^ 25) (2 ^ 25)⌉ ≤ 2 ^ 25 := by rw [Int.ceil_le]; push_cast; exact (min_le_right _ _).trans (by norm_num)
    exact fptosi_int _ (by omega) (by omega)
  · rw [← e]
    exact congrArg shl2S (EReal.coe_strictMono.monotone.map_max (a := a * 2 ^ 25) (b := (2 : ℝ) ^ 25)).symm
  · rw [hC]
    by_cases c0 : a < 1
    · have e1 : min (a * 2 ^ 25) ((2 : ℝ) ^ 25) = a * 2 ^ 25 := min_eq_left (by linarith)
      have e2 : max (a * 2 ^ 25) ((2 : ℝ) ^ 25) = 2 ^ 25 := max_eq_right (by linarith)
      rw [e1, e2, if_pos (by norm_num)]
      have e3 : place a = 2 * a := if_pos (by linarith)
      have e4 : ⌈(2 : ℝ) ^ 25⌉ = 2 ^ 25 := by rw [Int.ceil_eq_iff]; constructor <;> push_cast <;> norm_num
      rw [e3, e4, show (2 : ℝ) ^ 24 * (2 * a) = a * 2 ^ 25 by ring]
      omega
    · have e1 : min (a * 2 ^ 25) ((2 : ℝ) ^ 25) = 2 ^ 25 := min_eq_right (by linarith)
      have e2 : max (a * 2 ^ 25) ((2 : ℝ) ^ 25) = a * 2 ^ 25 := max_eq_left (by linarith)
      have e4 : ⌈(2 : ℝ) ^ 25⌉ = 2 ^ 25 := by rw [Int.ceil_eq_iff]; constructor <;> push_cast <;> norm_num
      rw [e1, e2, e4]
      unfold place
      by_cases c1 : a < 2
      · rw [if_pos c1, if_pos (by linarith), show (2 : ℝ) ^ 24 * (2 * a) = a * 2 ^ 25 by ring]
        omega
      · by_cases c2 : a < 4
        · rw [if_neg c1, if_pos c2, if_neg (by linarith), if_pos (by linarith),
            show (2 : ℝ) ^ 24 * (a + 2) = a * 2 ^ 25 / 2 + ((2 ^ 25 : ℤ) : ℝ) by push_cast; ring, Int.ceil_add_intCast]
          omega
        · rw [if_neg c1, if_neg c2, if_neg (by linarith), if_neg (by linarith),
            show (2 : ℝ) ^ 24 * (a / 2 + 4) = a * 2 ^ 25 / 4 + ((2 ^ 26 : ℤ) : ℝ) by push_cast; ring, Int.ceil_add_intCast]
          omega

theorem toInt_ofInt (z : ℤ) (h0 : -2147483648 ≤ z) (h1 : z ≤ 2147483647) : (BitVec.ofInt 32 z).toInt = z := by
  rw [BitVec.toInt_ofInt]
  exact Int.bmod_eq_of_le (by omega) (by omega)

/-- The negated code, 48 below zero. -/
theorem negS_eq {y : EReal} {a : ℝ} (w : BitVec 32) (hy : max y (-y) = ((a * 2 ^ 25 : ℝ) : EReal)) (h0 : 0 ≤ a) (h6 : a < 6) :
    negS y w = BitVec.ofInt 32 (-48 - num a w) := by
  obtain ⟨X, C, eX, eC, hXC⟩ := parts h0 h6
  unfold negS
  rw [hy, bits_p25, eX, eC]
  have hn0 := num_nonneg w h0
  have hn7 := num_le w h6
  have ht := top_lt w
  have hu : ((num a w : ℤ) : ℝ) * 2 ^ 24 + (top w : ℝ) ≥ 2 ^ 24 * place a := by
    have := Int.le_ceil (place a - (top w : ℝ) / 2 ^ 24)
    have q : place a - (top w : ℝ) / 2 ^ 24 ≤ ((num a w : ℤ) : ℝ) := this
    have : (top w : ℝ) / 2 ^ 24 * 2 ^ 24 = top w := by field_simp
    nlinarith
  have hl : (((num a w : ℤ) : ℝ) - 1) * 2 ^ 24 + (top w : ℝ) < 2 ^ 24 * place a := by
    have := Int.ceil_lt_add_one (place a - (top w : ℝ) / 2 ^ 24)
    have q : ((num a w : ℤ) : ℝ) < place a - (top w : ℝ) / 2 ^ 24 + 1 := this
    have : (top w : ℝ) / 2 ^ 24 * 2 ^ 24 = top w := by field_simp
    nlinarith
  have hu' : ⌈2 ^ 24 * place a⌉ ≤ num a w * 2 ^ 24 + (top w : ℤ) := by
    rw [Int.ceil_le]; push_cast; linarith
  have hl' : (num a w - 1) * 2 ^ 24 + (top w : ℤ) < ⌈2 ^ 24 * place a⌉ := by
    rw [Int.lt_ceil]; push_cast; linarith
  have hw : w >>> 8 = BitVec.ofInt 32 (top w : ℤ) := by
    rw [BitVec.ofInt_natCast]; unfold top; rw [BitVec.ofNat_toNat, BitVec.setWidth_eq]
  have hz : w >>> 8 - BitVec.ofInt 32 X - BitVec.ofInt 32 C = BitVec.ofInt 32 ((top w : ℤ) - X - C) := by
    rw [hw]
    simp only [BitVec.sub_eq_add_neg, ← BitVec.ofInt_neg, ← BitVec.ofInt_add]
    rfl
  rw [hz]
  apply BitVec.eq_of_toInt_eq
  rw [BitVec.toInt_sshiftRight, toInt_ofInt _ (by omega) (by omega), toInt_ofInt _ (by omega) (by omega), Int.shiftRight_eq_div_pow]
  omega

end Cert.CodeStep

end
-- ==== Proof.Bytes.lean ====
/- CODES AS BYTES: the four bytes of a code word are the four codes with their signs, the word of two sequence rows holds the
   even row's code in the low half of each byte and the odd row's in the high half, and the stored block is those bytes. -/
module

public import proofs.«01_k».proof.Proof.CodeStep
public import Idealize.ShloMosaic.Lib.BitcastPair
public import Idealize.ShloMosaic.Lib.ValueLayout

@[expose] public section

noncomputable section

namespace Cert.Bytes

open Idealize.ShloMosaic Idealize.ShloMosaic.ValueIdx Idealize.ShloMosaic.TcCoe Cert.KernelIdeal Cert.KernelIdeal.Gen Cert.KernelIdeal.Body Cert.CodeStep

/-- A code with its sign as a byte. -/
def code8 (n : Fin 8) (s : Bool) : BitVec 8 := BitVec.ofNat 8 n.val ||| (if s then 8#8 else 0#8)

/-- The same as a word. -/
def code32 (n : Fin 8) (s : Bool) : BitVec 32 := if s then BitVec.ofInt 32 n.val ||| 8#32 else BitVec.ofInt 32 n.val

/-- Two codes as a byte. -/
theorem code_pair : ∀ (n n' : Fin 8) (s s' : Bool),
    (code32 n s ||| code32 n' s' <<< 4).setWidth 8 = code8 n s ||| code8 n' s' <<< 4 := by decide +kernel

theorem code8_high : ∀ (n : Fin 8) (s : Bool) (i : Fin 4), (code8 n s).getLsbD (i.val + 4) = false := by decide +kernel

/-- Four bytes as a word. -/
def bytes (b : Fin 4 → BitVec 8) : BitVec 32 := b 3 ++ b 2 ++ b 1 ++ b 0

theorem bytes_getLsbD (b : Fin 4 → BitVec 8) (l : Fin 4) (i : ℕ) (hi : i < 8) : (bytes b).getLsbD (8 * l.val + i) = (b l).getLsbD i := by
  unfold bytes
  simp only [BitVec.getLsbD_append]
  revert l
  rw [Fin.forall_fin_succ, Fin.forall_fin_succ, Fin.forall_fin_two]
  refine ⟨?_, ?_, ?_, ?_⟩
  · rw [show 8 * (0 : Fin 4).val + i = i by show 8 * 0 + i = i; omega, if_pos hi]
  · rw [show 8 * (Fin.succ (0 : Fin 3)).val + i = i + 8 by show 8 * 1 + i = _; omega, if_neg (by omega), if_pos (by omega)]
    rw [Nat.add_sub_cancel]; rfl
  · rw [show 8 * (Fin.succ (Fin.succ (0 : Fin 2))).val + i = i + 16 by show 8 * 2 + i = _; omega, if_neg (by omega), if_neg (by omega), if_pos (by omega)]
    rw [show i + 16 - 8 - 8 = i by omega]; rfl
  · rw [show 8 * (Fin.succ (Fin.succ (1 : Fin 2))).val + i = i + 24 by show 8 * 3 + i = _; omega, if_neg (by omega), if_neg (by omega), if_neg (by omega)]
    rw [show i + 24 - 8 - 8 - 8 = i by omega]; rfl

/-- A byte of the word of two rows. -/
theorem pair_getLsbD (n n' : Fin 4 → Fin 8) (s s' : Fin 4 → Bool) (l : Fin 4) (i : ℕ) (hi : i < 8) :
    (bytes (fun l => code8 (n l) (s l)) ||| bytes (fun l => code8 (n' l) (s' l)) <<< 4).getLsbD (8 * l.val + i)
      = (code8 (n l) (s l) ||| code8 (n' l) (s' l) <<< 4).getLsbD i := by
  have hl := l.isLt
  rw [BitVec.getLsbD_or, BitVec.getLsbD_or, bytes_getLsbD _ l i hi, BitVec.getLsbD_shiftLeft, BitVec.getLsbD_shiftLeft]
  refine congrArg (Bool.or _) ?_
  rw [show decide (8 * l.val + i < 32) = true from decide_eq_true (by omega), show decide (i < 8) = true from decide_eq_true hi]
  by_cases h4 : i < 4
  · rw [show decide (i < 4) = true from decide_eq_true h4]
    by_cases h0 : l.val = 0
    · rw [show decide (8 * l.val + i < 4) = true from decide_eq_true (by omega)]
      rfl
    · have e : 8 * l.val + i - 4 = 8 * (⟨l.val - 1, by omega⟩ : Fin 4).val + (i + 4) := by
        show _ = 8 * (l.val - 1) + (i + 4); omega
      rw [e, bytes_getLsbD _ _ _ (by omega), code8_high _ _ ⟨i, h4⟩]
      simp
  · rw [show decide (i < 4) = false from decide_eq_false h4, show decide (8 * l.val + i < 4) = false from decide_eq_false (by omega),
      show 8 * l.val + i - 4 = 8 * l.val + (i - 4) by omega, bytes_getLsbD _ l _ (by omega)]

/-! ## The kernel's word of four codes -/

/-- The masks that turn the negated codes into the codes. -/
def unneg (e : Fin 4 → BitVec 32) : BitVec 32 :=
  (134744072#32 - (bytes (fun l => (e l).setWidth 8) &&& 117901063#32)) &&& 117901063#32

theorem unneg_eq : ∀ n0 n1 n2 n3 : Fin 8, (134744072#32 - ((BitVec.ofNat 8 (208 - n3.val) ++ BitVec.ofNat 8 (208 - n2.val) ++ BitVec.ofNat 8 (208 - n1.val)
    ++ BitVec.ofNat 8 (208 - n0.val) : BitVec 32) &&& 117901063#32)) &&& 117901063#32
      = BitVec.ofNat 8 n3.val ++ BitVec.ofNat 8 n2.val ++ BitVec.ofNat 8 n1.val ++ BitVec.ofNat 8 n0.val := by decide +kernel

theorem neg_byte : ∀ n : Fin 8, (BitVec.ofInt 32 (-48 - (n.val : ℤ))).setWidth 8 = BitVec.ofNat 8 (208 - n.val) := by decide +kernel

theorem signs_eq : ∀ s0 s1 s2 s3 : Bool, ((BitVec.ofBool s3).setWidth 8 ++ (BitVec.ofBool s2).setWidth 8 ++ (BitVec.ofBool s1).setWidth 8
    ++ (BitVec.ofBool s0).setWidth 8 : BitVec 32) <<< 3
      = (if s3 then 8#8 else 0#8) ++ (if s2 then 8#8 else 0#8) ++ (if s1 then 8#8 else 0#8) ++ (if s0 then 8#8 else 0#8) := by decide +kernel

theorem sign_byte : ∀ s : Bool, ((BitVec.ofBool s).setWidth 32).setWidth 8 = (BitVec.ofBool s).setWidth 8 := by decide

theorem or_bytes (a0 a1 a2 a3 b0 b1 b2 b3 : BitVec 8) :
    ((a3 ++ a2 ++ a1 ++ a0 : BitVec 32) ||| (b3 ++ b2 ++ b1 ++ b0 : BitVec 32)) = (a3 ||| b3) ++ (a2 ||| b2) ++ (a1 ||| b1) ++ (a0 ||| b0) := by
  rw [BitVec.or_append, BitVec.or_append, BitVec.or_append]

/-- The sign of a product as a word. -/
def signS (y : EReal) : BitVec 32 := (Ideal.cmp .olt y (Ideal.ofBits .f32 0x00000000#32)).setWidth 32

theorem signWord_at (y : FVec Ideal S32x128 .f32) (i : S32x128.Idx) : signWord y i = signS (y i) := rfl

/-- A code word from its negated codes and its signs. -/
def packS (e g : Fin 4 → BitVec 32) : BitVec 32 :=
  ((134744072#32 - (((e 3).setWidth 8 ++ (e 2).setWidth 8 ++ (e 1).setWidth 8 ++ (e 0).setWidth 8 : BitVec 32) &&& 117901063#32)) &&& 117901063#32)
    ||| ((g 3).setWidth 8 ++ (g 2).setWidth 8 ++ (g 1).setWidth 8 ++ (g 0).setWidth 8 : BitVec 32) <<< 3

theorem packedAt_eq (y0 y1 y2 y3 : EReal) (s : Four) :
    packedAt (F := Ideal) y0 y1 y2 y3 s = packS ![negS y0 s.c0, negS y1 s.c1, negS y2 s.c2, negS y3 s.c3] ![signS y0, signS y1, signS y2, signS y3] := by
  unfold packedAt packed
  rw [shapeCast_self]
  simp only [ori, andi, subi, shli, packElementwiseInt8_apply]
  rfl

theorem packS_eq (e g : Fin 4 → BitVec 32) (n : Fin 4 → Fin 8) (s : Fin 4 → Bool) (he : ∀ l, e l = BitVec.ofInt 32 (-48 - ((n l).val : ℤ)))
    (hg : ∀ l, g l = (BitVec.ofBool (s l)).setWidth 32) : packS e g = bytes (fun l => code8 (n l) (s l)) := by
  unfold packS
  simp only [he, hg, neg_byte, sign_byte]
  rw [unneg_eq, signs_eq, or_bytes]
  rfl

/-! ## The stored block -/

/-- A stored byte of the block, bit by bit. -/
theorem pay2_getLsbD (v : Vec Ideal S384x128 .i32) (d : Fin 512) (r : Fin 384) (i : ℕ) (hi : i < 8) :
    (k0_pay2 v (ix3 (0 : Fin 1) d r)).getLsbD i = (v (ix2 r (⟨d.val / 4, by omega⟩ : Fin 128))).getLsbD (8 * (d.val % 4) + i) := by
  have e1 : k0_pay2 v (ix3 (0 : Fin 1) d r)
      = bitcast S512x384 8 (transpose S128x384 [1, 0] v transposes_S384x128_p1_0_S128x384) bitcasts_S128x384_w32_S512x384_w8 (ix2 d r) := by
    unfold k0_pay2
    exact shapeCast_ab_1ab_apply _ _ _ d r
  rw [e1, bitcast_getLsbD _ _ _ i hi (by decide)]
  have hrow : Shape.row S512x384 (ix2 d r) = d.val := rfl
  have em : (Shape.row S512x384 (ix2 d r) * 8 + i) % 32 = 8 * (d.val % 4) + i := by rw [hrow]; omega
  have ed : (Shape.row S512x384 (ix2 d r) * 8 + i) / 32 = d.val / 4 := by rw [hrow]; omega
  rw [em]
  refine congrArg (BitVec.getLsbD · _) ?_
  refine transpose_apply (s := S384x128) [1, 0] v transposes_S384x128_p1_0_S128x384 _ (ix2 r (⟨d.val / 4, by omega⟩ : Fin 128)) (fun a => ?_)
  revert a; rw [Fin.forall_fin_two]
  refine ⟨?_, ?_⟩
  · exact ((Shape.Bitcasts.srcIdx_row bitcasts_S128x384_w32_S512x384_w8 (ix2 d r) _ _ (0 : Fin 2) (by decide)).trans ed).symm
  · exact (Shape.Bitcasts.srcIdx_other bitcasts_S128x384_w32_S512x384_w8 (ix2 d r) _ _ (1 : Fin 2) (by decide)).symm

end Cert.Bytes

end
-- ==== Proof.Element.lean ====
/- ONE ELEMENT: under a group maximum in range, the kernel's product gives the negated code and the sign of exactly the code that the
   reference gives the element. -/
module

public import proofs.«01_k».proof.Proof.Bytes

@[expose] public section

noncomputable section

namespace Cert.Element

open Idealize.ShloMosaic Cert.Expo Cert.CodeStep Cert.Bytes Cert.KernelIdeal.Body
open Cert.ReferenceIdeal.Read (nibS numS magS expoS expoS)

/-- An element no larger than its group's maximum is a number, and scaled it is below eight. -/
theorem scaled_of {v m : EReal} (hm : Good m) (hv : max v (-v) ≤ m) : ∃ x i : ℝ, v = x ∧ invK m = ((i : ℝ) : EReal) ∧ 0 < i ∧ |x| * i < 8
    ∧ magS v m = ((|x| * (3 / 4) * i : ℝ) : EReal) := by
  rcases hm.cases with rfl | ⟨r, k, h⟩
  · have h1 : v ≤ 0 := (le_max_left _ _).trans hv
    have h2 : 0 ≤ v := by
      have := (le_max_right _ _).trans hv
      exact EReal.neg_le_zero.1 this
    obtain rfl : v = 0 := le_antisymm h1 h2
    refine ⟨0, 1, rfl, invK_zero, one_pos, by norm_num, ?_⟩
    unfold magS
    rw [neg_zero, max_self, zero_mul, zero_mul, abs_zero, zero_mul, zero_mul]
    rfl
  · have hr : m = (r : EReal) := h.eq
    have h1 : v ≤ (r : EReal) := hr ▸ (le_max_left _ _).trans hv
    have h2 : -v ≤ (r : EReal) := hr ▸ (le_max_right _ _).trans hv
    have t : v ≠ ⊤ := fun e => by rw [e] at h1; exact absurd h1 (not_le.2 (EReal.coe_lt_top r))
    have b : v ≠ ⊥ := fun e => by rw [e, EReal.neg_bot] at h2; exact absurd h2 (not_le.2 (EReal.coe_lt_top r))
    obtain ⟨x, rfl⟩ : ∃ x : ℝ, v = x := ⟨v.toReal, (EReal.coe_toReal t b).symm⟩
    have hx : |x| ≤ r := abs_le'.2 ⟨EReal.coe_le_coe_iff.1 h1, by rw [← EReal.coe_neg] at h2; exact EReal.coe_le_coe_iff.1 h2⟩
    have hi : (0 : ℝ) < 2 ^ (2 - k) := by positivity
    refine ⟨x, 2 ^ (2 - k), rfl, invK_mag h, hi, ?_, ?_⟩
    · have e : (2 : ℝ) ^ (k + 1) * 2 ^ (2 - k) = 8 := by
        rw [← zpow_add₀ (by norm_num), show k + 1 + (2 - k) = 3 by ring]; norm_num
      calc |x| * 2 ^ (2 - k) ≤ r * 2 ^ (2 - k) := mul_le_mul_of_nonneg_right hx hi.le
        _ < 2 ^ (k + 1) * 2 ^ (2 - k) := mul_lt_mul_of_pos_right h.lt hi
        _ = 8 := e
    · have hlo := h.lo
      have hhi := h.hi
      have e1 : (-expoS m).toInt = 2 - k := by
        rw [expoS_mag h, ← BitVec.ofInt_neg, show -(k - 2) = 2 - k by ring, toInt_ofInt _ (by omega) (by omega)]
      unfold magS
      rw [e1, bits_two, bits_three_quarters, Ideal.pow_coe_coe]
      have e2 : Real.rpow 2 ((2 - k : ℤ) : ℝ) = 2 ^ (2 - k) := Real.rpow_intCast 2 (2 - k)
      rw [e2]
      have e3 : max (x : EReal) (-(x : EReal)) = ((|x| : ℝ) : EReal) := by
        rw [← EReal.coe_neg]
        exact (EReal.coe_strictMono.monotone.map_max (a := x) (b := -x)).symm
      rw [e3, ← EReal.coe_mul, ← EReal.coe_mul]

theorem bit_cases : ∀ b : BitVec 1, b = 1#1 ∨ b = 0#1 := by decide

theorem cmp_olt_zero (x : ℝ) : Ideal.cmp .olt (x : EReal) (Ideal.ofBits .f32 0x00000000#32) = BitVec.ofBool (decide (x < 0)) := by
  have h : Ideal.cmp .olt (x : EReal) (Ideal.ofBits .f32 0x00000000#32) = 1#1 ↔ x < 0 := by
    rw [zero_bits]
    exact cmp_olt.trans (EReal.coe_lt_coe_iff (y := 0))
  by_cases c : x < 0
  · rw [h.2 c, decide_eq_true c]; rfl
  · rw [decide_eq_false c]
    exact (bit_cases _).resolve_left fun e => c (h.1 e)

/-- The element's code, on both sides. -/
theorem element {v m : EReal} (hm : Good m) (hv : max v (-v) ≤ m) (w : BitVec 32) : ∃ (n : Fin 8) (s : Bool),
    negS (v * invK m * Ideal.ofBits .f32 0x4BC00000#32) w = BitVec.ofInt 32 (-48 - (n.val : ℤ))
      ∧ signS (v * invK m * Ideal.ofBits .f32 0x4BC00000#32) = (BitVec.ofBool s).setWidth 32
      ∧ nibS v (magS v m) w = code32 n s := by
  obtain ⟨x, i, rfl, hi, i0, h8, hmag⟩ := scaled_of hm hv
  have a0 : 0 ≤ |x| * (3 / 4) * i := by positivity
  have a6 : |x| * (3 / 4) * i < 6 := by nlinarith
  have hy : (x : EReal) * invK m * Ideal.ofBits .f32 0x4BC00000#32 = ((x * i * (3 / 4 * 2 ^ 25) : ℝ) : EReal) := by
    rw [hi, bits_place, ← EReal.coe_mul, ← EReal.coe_mul]
  have habs : max ((x * i * (3 / 4 * 2 ^ 25) : ℝ) : EReal) (-((x * i * (3 / 4 * 2 ^ 25) : ℝ) : EReal)) = ((|x| * (3 / 4) * i * 2 ^ 25 : ℝ) : EReal) := by
    rw [← EReal.coe_neg]
    refine (EReal.coe_strictMono.monotone.map_max (a := x * i * (3 / 4 * 2 ^ 25)) (b := -(x * i * (3 / 4 * 2 ^ 25)))).symm.trans ?_
    refine congrArg _ ?_
    show |x * i * (3 / 4 * 2 ^ 25)| = _
    rw [abs_mul, abs_mul, abs_of_pos i0, abs_of_pos (by norm_num : (0 : ℝ) < 3 / 4 * 2 ^ 25)]
    ring
  have n0 := num_nonneg w a0
  have n7 := num_le w a6
  have hs : x * i * (3 / 4 * 2 ^ 25) < 0 ↔ x < 0 := by
    rw [mul_assoc]
    have : 0 < i * (3 / 4 * 2 ^ 25) := by positivity
    constructor
    · intro h; by_contra c; exact absurd h (not_lt.2 (mul_nonneg (not_lt.1 c) this.le))
    · intro h; exact mul_neg_of_neg_of_pos h this
  have hn : ((num (|x| * (3 / 4) * i) w).toNat : ℤ) = num (|x| * (3 / 4) * i) w := Int.toNat_of_nonneg n0
  refine ⟨⟨(num (|x| * (3 / 4) * i) w).toNat, by omega⟩, decide (x < 0), ?_, ?_, ?_⟩
  · rw [hy, negS_eq w habs a0 a6]
    show _ = BitVec.ofInt 32 (-48 - ((num (|x| * (3 / 4) * i) w).toNat : ℤ))
    rw [hn]
  · unfold signS
    rw [hy, cmp_olt_zero]
    simp only [hs]
  · unfold nibS code32
    rw [cmp_olt_zero, hmag, numS_eq w a0 a6]
    show _ = if decide (x < 0) = true then BitVec.ofInt 32 ((num (|x| * (3 / 4) * i) w).toNat : ℤ) ||| 8#32 else BitVec.ofInt 32 ((num (|x| * (3 / 4) * i) w).toNat : ℤ)
    rw [hn]
    by_cases c : x < 0
    · rw [decide_eq_true c]; rfl
    · rw [decide_eq_false c]; rfl

end Cert.Element

end
-- ==== Proof.Run.lean ====
/- THE BODY RUN: from the three operands' blocks the body leaves the block's codes and scales in its two result blocks. -/
module

public import proofs.«01_k».proof.Proof.Gen.KernelIdeal.Frame
public import proofs.«01_k».proof.Proof.Block

@[expose] public section

-- rectangles of the blocks' extents: the elaborator recurses along the long axes
set_option maxRecDepth 16384

noncomputable section

namespace Cert.KernelIdeal.Body

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen

variable {F : FTy → Type} [FloatOps F]

local notation "𝕄" => MT nD τ sig Unit (Elt F) ℕ (UR sig nD τ) ℕ

-- the run's proof term is large: checking it walks past the default budget
set_option maxHeartbeats 4000000 in
/-- The body's triple: on whole buffers, the operands' at their contents and the rest at anything, the body runs to the continuation
    holding the operands' as they were, the first result's block at the block's codes and the second's at its scales. -/
theorem bodyRun (c : Dev nD) (i : grid0.Coords) (arg2 : Memref sig .tc .smem S2 .i32) (harg2 : arg2.IsWhole) (arg3 : Memref sig .tc .vmem S512x512 .bf16) (harg3 : arg3.IsWhole) (arg4 : Memref sig .tc .vmem S1x768x512 .bf16) (harg4 : arg4.IsWhole) (arg5 : Memref sig .tc .vmem S1x512x384 .i8) (harg5 : arg5.IsWhole) (arg6 : Memref sig .tc .vmem S1x512x24 .i8) (harg6 : arg6.IsWhole) (arg7 : Memref sig .tc .vmem S24x512 .f32) (harg7 : arg7.IsWhole) (arg8 : Memref sig .tc .vmem S128x512 .f32) (harg8 : arg8.IsWhole) (arg9 : Memref sig .tc .vmem S128x128 .i32) (harg9 : arg9.IsWhole) (arg10 : Memref sig .tc .vmem S384x128 .i32) (harg10 : arg10.IsWhole)
    (x0 : Vec F S2 .i32) (x1 : Vec F S512x512 .bf16) (x2 : Vec F S1x768x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare (codesV (i 0).val (i 1).val x0 x1 x2) ∗ owns (c : Thread nD τ) arg6 fullShare (scalesV x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    intro E K
    simp only [cc0__body_eq_skeleton]; unfold cc0__body_skel
    simp only [k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_full arg5.view _ _ _ _).trans (congrArg k0_pay2 ?_)
      show arg10.view.readAt (Elt F) _ (arg10.view.writes (Elt F) arg10.view.junk _) = _
      refine words_of arg10.view _ (wordsV (i 0).val (i 1).val x0 x1 x2) _ _ _ _ _ _ _ _ _ _ _ _ _ ?_ ?_ ?_ ?_ ?_ ?_
      · intro x
        exact word_of arg9.view _ (i 0).val (i 1).val x0 x1 x2 0 (by decide) (loop1_read ..)
          (load_seed arg2 harg2 x0 0 (by decide) _ _) (load_seed arg2 harg2 x0 1 (by decide) _ _)
          ((View.read_writes_full arg8.view _ _ _ _).trans (chunkY_of x1 x2 0 (by decide) (load_x arg4 harg4 x2 0 (by decide) _) (cov_row arg7.view _ (congrArg invV (load_all arg4 harg4 x2 _)) 0 (by decide) _) (load_x arg4 harg4 x2 32 (by decide) _) (cov_row arg7.view _ (congrArg invV (load_all arg4 harg4 x2 _)) 1 (by decide) _) (load_x arg4 harg4 x2 64 (by decide) _) (cov_row arg7.view _ (congrArg invV (load_all arg4 harg4 x2 _)) 2 (by decide) _) (load_x arg4 harg4 x2 96 (by decide) _) (cov_row arg7.view _ (congrArg invV (load_all arg4 harg4 x2 _)) 3 (by decide) _)
            (load_all arg3 harg3 x1 _))) _ _ _ x
      · intro x
        exact word_of arg9.view _ (i 0).val (i 1).val x0 x1 x2 1 (by decide) ((congrArg _ (View.writes_append _ _ _ _)).trans (loop2_read ..))
          (load_seed arg2 harg2 x0 0 (by decide) _ _) (load_seed arg2 harg2 x0 1 (by decide) _ _)
          ((View.read_writes_full arg8.view _ _ _ _).trans (chunkY_of x1 x2 1 (by decide) (load_x arg4 harg4 x2 128 (by decide) _) (cov_row arg7.view _ (congrArg invV (load_all arg4 harg4 x2 _)) 4 (by decide) _) (load_x arg4 harg4 x2 160 (by decide) _) (cov_row arg7.view _ (congrArg invV (load_all arg4 harg4 x2 _)) 5 (by decide) _) (load_x arg4 harg4 x2 192 (by decide) _) (cov_row arg7.view _ (congrArg invV (load_all arg4 harg4 x2 _)) 6 (by decide) _) (load_x arg4 harg4 x2 224 (by decide) _) (cov_row arg7.view _ (congrArg invV (load_all arg4 harg4 x2 _)) 7 (by decide) _)
            (load_all arg3 harg3 x1 _))) _ _ _ x
      · intro x
        exact word_of arg9.view _ (i 0).val (i 1).val x0 x1 x2 2 (by decide) ((congrArg _ (View.writes_append _ _ _ _)).trans (loop3_read ..))
          (load_seed arg2 harg2 x0 0 (by decide) _ _) (load_seed arg2 harg2 x0 1 (by decide) _ _)
          ((View.read_writes_full arg8.view _ _ _ _).trans (chunkY_of x1 x2 2 (by decide) (load_x arg4 harg4 x2 256 (by decide) _) (cov_row arg7.view _ (congrArg invV (load_all arg4 harg4 x2 _)) 8 (by decide) _) (load_x arg4 harg4 x2 288 (by decide) _) (cov_row arg7.view _ (congrArg invV (load_all arg4 harg4 x2 _)) 9 (by decide) _) (load_x arg4 harg4 x2 320 (by decide) _) (cov_row arg7.view _ (congrArg invV (load_all arg4 harg4 x2 _)) 10 (by decide) _) (load_x arg4 harg4 x2 352 (by decide) _) (cov_row arg7.view _ (congrArg invV (load_all arg4 harg4 x2 _)) 11 (by decide) _)
            (load_all arg3 harg3 x1 _))) _ _ _ x
      · intro x
        exact word_of arg9.view _ (i 0).val (i 1).val x0 x1 x2 3 (by decide) ((congrArg _ (View.writes_append _ _ _ _)).trans (loop4_read ..))
          (load_seed arg2 harg2 x0 0 (by decide) _ _) (load_seed arg2 harg2 x0 1 (by decide) _ _)
          ((View.read_writes_full arg8.view _ _ _ _).trans (chunkY_of x1 x2 3 (by decide) (load_x arg4 harg4 x2 384 (by decide) _) (cov_row arg7.view _ (congrArg invV (load_all arg4 harg4 x2 _)) 12 (by decide) _) (load_x arg4 harg4 x2 416 (by decide) _) (cov_row arg7.view _ (congrArg invV (load_all arg4 harg4 x2 _)) 13 (by decide) _) (load_x arg4 harg4 x2 448 (by decide) _) (cov_row arg7.view _ (congrArg invV (load_all arg4 harg4 x2 _)) 14 (by decide) _) (load_x arg4 harg4 x2 480 (by decide) _) (cov_row arg7.view _ (congrArg invV (load_all arg4 harg4 x2 _)) 15 (by decide) _)
            (load_all arg3 harg3 x1 _))) _ _ _ x
      · intro x
        exact word_of arg9.view _ (i 0).val (i 1).val x0 x1 x2 4 (by decide) ((congrArg _ (View.writes_append _ _ _ _)).trans (loop5_read ..))
          (load_seed arg2 harg2 x0 0 (by decide) _ _) (load_seed arg2 harg2 x0 1 (by decide) _ _)
          ((View.read_writes_full arg8.view _ _ _ _).trans (chunkY_of x1 x2 4 (by decide) (load_x arg4 harg4 x2 512 (by decide) _) (cov_row arg7.view _ (congrArg invV (load_all arg4 harg4 x2 _)) 16 (by decide) _) (load_x arg4 harg4 x2 544 (by decide) _) (cov_row arg7.view _ (congrArg invV (load_all arg4 harg4 x2 _)) 17 (by decide) _) (load_x arg4 harg4 x2 576 (by decide) _) (cov_row arg7.view _ (congrArg invV (load_all arg4 harg4 x2 _)) 18 (by decide) _) (load_x arg4 harg4 x2 608 (by decide) _) (cov_row arg7.view _ (congrArg invV (load_all arg4 harg4 x2 _)) 19 (by decide) _)
            (load_all arg3 harg3 x1 _))) _ _ _ x
      · intro x
        exact word_of arg9.view _ (i 0).val (i 1).val x0 x1 x2 5 (by decide) ((congrArg _ (View.writes_append _ _ _ _)).trans (loop6_read ..))
          (load_seed arg2 harg2 x0 0 (by decide) _ _) (load_seed arg2 harg2 x0 1 (by decide) _ _)
          ((View.read_writes_full arg8.view _ _ _ _).trans (chunkY_of x1 x2 5 (by decide) (load_x arg4 harg4 x2 640 (by decide) _) (cov_row arg7.view _ (congrArg invV (load_all arg4 harg4 x2 _)) 20 (by decide) _) (load_x arg4 harg4 x2 672 (by decide) _) (cov_row arg7.view _ (congrArg invV (load_all arg4 harg4 x2 _)) 21 (by decide) _) (load_x arg4 harg4 x2 704 (by decide) _) (cov_row arg7.view _ (congrArg invV (load_all arg4 harg4 x2 _)) 22 (by decide) _) (load_x arg4 harg4 x2 736 (by decide) _) (cov_row arg7.view _ (congrArg invV (load_all arg4 harg4 x2 _)) 23 (by decide) _)
            (load_all arg3 harg3 x1 _))) _ _ _ x
    isplitl [H4]
    · iexists _; isplitr; swap; · iexact H4
      ipureintro
      refine (View.read_writes_full arg6.view _ _ _ _).trans ?_
      show k0_pay560 (k0_pay555 _) (k0_pay556 _) (k0_pay557 _) (k0_pay558 _) = _
      rw [load_all arg4 harg4 x2]; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.Launch.lean ====
/- THE LAUNCH: from the body's triple (`bodyRun`), every run of the program ends with each result array holding, block by block,
   what the body leaves there; the argument arrays are unchanged and every semaphore is at zero. -/
module

public import proofs.«01_k».proof.Proof.Run
public import proofs.«01_k».proof.Proof.Gen.KernelIdeal.Frame
public import Idealize.ShloMosaic.Lib.Claim

@[expose] public section

-- rectangles of the blocks' extents: the elaborator recurses along the long axes
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms0_0 (t : Fin cfg0.N) : Memref sig .tc .smem S2 .i32 := win0_0.stage (cfg0.slots t 0)
abbrev ms0_1 (t : Fin cfg0.N) : Memref sig .tc .vmem S512x512 .bf16 := win0_1.stage (cfg0.slots t 1)
abbrev ms0_2 (t : Fin cfg0.N) : Memref sig .tc .vmem S1x768x512 .bf16 := win0_2.stage (cfg0.slots t 2)
abbrev ms0_3 (t : Fin cfg0.N) : Memref sig .tc .vmem S1x512x384 .i8 := win0_3.stage (cfg0.slots t 3)
abbrev ms0_4 (t : Fin cfg0.N) : Memref sig .tc .vmem S1x512x24 .i8 := win0_4.stage (cfg0.slots t 4)

/-- The scratch buffers, whole. -/
abbrev scM0_0 : Memref sig .tc .vmem S24x512 .f32 := Memref.whole cc0_scratch0
abbrev scM0_1 : Memref sig .tc .vmem S128x512 .f32 := Memref.whole cc0_scratch1
abbrev scM0_2 : Memref sig .tc .vmem S128x128 .i32 := Memref.whole cc0_scratch2
abbrev scM0_3 : Memref sig .tc .vmem S384x128 .i32 := Memref.whole cc0_scratch3

/-- The pipeline's invariant: the scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-- The codes and the scales that the body leaves at point `t`. -/
def codesAt (c : Dev nD) (t : Fin cfg0.N) : IVec S1x512x384 8 :=
  codesV (F := F) (grid0.coords t 0).val (grid0.coords t 1).val (iblk m c 0 t) (iblk m c 1 t) (iblk m c 2 t)
def scalesAt (c : Dev nD) (t : Fin cfg0.N) : IVec S1x512x24 8 := scalesV (F := F) (iblk m c 2 t)

/-- The proof data: each operand's block stays as fetched, each result's block is what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesAt m c t
    | ⟨4, _⟩ => scalesAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codesAt m c t := by dsimp only [dats]
theorem after0_4 (c : Dev nD) (t : Fin cfg0.N) : (dats m 0 c).after 4 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold codesAt scalesAt
  iintro ⟨⟨⟨HS0, HS1, HS2, HS3⟩, Hg⟩, Ho, ⟨%d0, H0⟩, ⟨%d1, H1⟩, ⟨%d2, H2⟩, ⟨%d3, H3⟩, ⟨%d4, H4⟩⟩
  iapply ((bodyRun c (grid0.coords t) _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unifying its conclusion with this one, which takes unfolding plain
-- definitions in a metavariable's type
set_option backward.isDefEq.respectTransparency.types false in
/-- The run, with every semaphore at zero at the end. -/
theorem run_main : θ_run defs (onTc (τ := τ) (main (F := F))) (s₀ m ρ) (fun r => Pipeline.FramePost cfgs (dats m) 0 (V m) r ∧ r.2.sem = fun _ => 0) :=
  Pipeline.θ_run_frame (Q' := fun r => Pipeline.FramePost cfgs (dats m) 0 (V m) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) ((θ_run defs _ _).mono (fun _ h => h.1) (run_main m ρ))

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main m ρ))

/-- The result arrays, each as one function, once every block of each is known. -/
theorem results (G3 : (c : Dev nD) → Buf (Elt F) ((c : Thread nD τ).loc main_v12_0)) (G4 : (c : Dev nD) → Buf (Elt F) ((c : Thread nD τ).loc main_v12_1))
    (h3 : ∀ c, (dats m 0 c).arrAt 3 cfg0.N = G3 c) (h4 : ∀ c, (dats m 0 c).arrAt 4 cfg0.N = G4 c) :
    θ_run defs (onTc (τ := τ) (main (F := F))) ⟨m, fun _ => 0, ρ⟩ (fun r => ∀ c : Dev nD,
      r.2.mem ((c.tc : Thread nD τ).loc main_v12_0) = G3 c
      ∧ r.2.mem ((c.tc : Thread nD τ).loc main_v12_1) = G4 c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.2.1 c).1 3).trans (h3 c), ((h.2.1 c).1 4).trans (h4 c), h.1 c⟩)
    (θ_run_and (unchanged m ρ) (run_main m ρ))

end Cert.KernelIdeal.Body

end
-- ==== Proof.Arrays.lean ====
/- THE RESULT ARRAYS, from the blocks the body leaves at the 64 grid points: point `t` takes batch `t / 32` and the 512 columns from
   `512 (t % 32)` on, and between them the points' blocks fill both results. -/
module

public import proofs.«01_k».proof.Proof.Launch
public import Idealize.ShloMosaic.Lib.ValueIdxCoords

@[expose] public section

noncomputable section

namespace Cert.KernelIdeal.Body

open Idealize.ShloMosaic Idealize.ShloMosaic.ValueIdx Idealize.ShloMosaic.TcCoe Cert.KernelIdeal Cert.KernelIdeal.Gen

variable {F : FTy → Type} [FloatOps F]
variable (m : (ℓ : Loc nD τ sig) → Buf (Elt F) ℓ)

theorem point_lt (t : Fin cfg0.N) : t.val < 64 := t.isLt

/-- A point's batch. -/
def ptB (t : Fin cfg0.N) : Fin 2 := ⟨t.val / 32, by have := point_lt t; omega⟩

/-- The array's column of a point's column. -/
def ptD (t : Fin cfg0.N) (d : Fin 512) : Fin 16384 := ⟨t.val % 32 * 512 + d.val, by omega⟩

theorem coords0 : ∀ t : Fin cfg0.N, (grid0.coords t 0).val = t.val / 32 ∧ (grid0.coords t 1).val = t.val % 32 :=
  (by decide +kernel : ∀ t : Fin grid0.N, _)

theorem index0 : ∀ t : Fin cfg0.N, win0_0.index t (0 : Fin 1) = 0 := (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 3) = t.val / 32 ∧ win0_2.index t (1 : Fin 3) = 0 ∧ win0_2.index t (2 : Fin 3) = t.val % 32 :=
  (by decide +kernel : ∀ t : Fin grid0.N, _)
theorem index3 : ∀ t : Fin cfg0.N, win0_3.index t (0 : Fin 3) = t.val / 32 ∧ win0_3.index t (1 : Fin 3) = t.val % 32 ∧ win0_3.index t (2 : Fin 3) = 0 :=
  (by decide +kernel : ∀ t : Fin grid0.N, _)
theorem index4 : ∀ t : Fin cfg0.N, win0_4.index t (0 : Fin 3) = t.val / 32 ∧ win0_4.index t (1 : Fin 3) = t.val % 32 ∧ win0_4.index t (2 : Fin 3) = 0 :=
  (by decide +kernel : ∀ t : Fin grid0.N, _)

theorem emb0 (t : Fin cfg0.N) (j : S2.Idx) : ((cfg0.win 0).blk t).view.emb j = j := by
  have e0 := index0 t
  funext a; apply Fin.ext
  match a with
  | ⟨0, _⟩ => show win0_0.index t (0 : Fin 1) * 2 + 1 * (j 0).val = (j 0).val; omega

theorem emb1 (t : Fin cfg0.N) (j : S512x512.Idx) : ((cfg0.win 1).blk t).view.emb j = j := by
  obtain ⟨e0, e1⟩ := index1 t
  funext a; apply Fin.ext
  match a with
  | ⟨0, _⟩ => show win0_1.index t (0 : Fin 2) * 512 + 1 * (j 0).val = (j 0).val; omega
  | ⟨1, _⟩ => show win0_1.index t (1 : Fin 2) * 512 + 1 * (j 1).val = (j 1).val; omega

theorem emb2 (t : Fin cfg0.N) (r : Fin 768) (d : Fin 512) :
    ((cfg0.win 2).blk t).view.emb (ix3 (0 : Fin 1) r d) = ix3 (ptB t) r (ptD t d) := by
  obtain ⟨e0, e1, e2⟩ := index2 t
  funext a; apply Fin.ext
  match a with
  | ⟨0, _⟩ => show win0_2.index t (0 : Fin 3) * 1 + 1 * 0 = t.val / 32; omega
  | ⟨1, _⟩ => show win0_2.index t (1 : Fin 3) * 768 + 1 * r.val = r.val; omega
  | ⟨2, _⟩ => show win0_2.index t (2 : Fin 3) * 512 + 1 * d.val = t.val % 32 * 512 + d.val; omega

theorem emb3 (t : Fin cfg0.N) (d : Fin 512) (r : Fin 384) :
    ((cfg0.win 3).blk t).view.emb (ix3 (0 : Fin 1) d r) = ix3 (ptB t) (ptD t d) r := by
  obtain ⟨e0, e1, e2⟩ := index3 t
  funext a; apply Fin.ext
  match a with
  | ⟨0, _⟩ => show win0_3.index t (0 : Fin 3) * 1 + 1 * 0 = t.val / 32; omega
  | ⟨1, _⟩ => show win0_3.index t (1 : Fin 3) * 512 + 1 * d.val = t.val % 32 * 512 + d.val; omega
  | ⟨2, _⟩ => show win0_3.index t (2 : Fin 3) * 384 + 1 * r.val = r.val; omega

theorem emb4 (t : Fin cfg0.N) (d : Fin 512) (g : Fin 24) :
    ((cfg0.win 4).blk t).view.emb (ix3 (0 : Fin 1) d g) = ix3 (ptB t) (ptD t d) g := by
  obtain ⟨e0, e1, e2⟩ := index4 t
  funext a; apply Fin.ext
  match a with
  | ⟨0, _⟩ => show win0_4.index t (0 : Fin 3) * 1 + 1 * 0 = t.val / 32; omega
  | ⟨1, _⟩ => show win0_4.index t (1 : Fin 3) * 512 + 1 * d.val = t.val % 32 * 512 + d.val; omega
  | ⟨2, _⟩ => show win0_4.index t (2 : Fin 3) * 24 + 1 * g.val = g.val; omega

/-! ## The operands' blocks -/

theorem iblk0_eq (c : Dev nD) (t : Fin cfg0.N) : iblk m c 0 t = m ((c : Thread nD τ).loc main_arg1) := by
  funext j; show V m c main_arg1 (((cfg0.win 0).blk t).view.emb j) = _; rw [emb0, V_main_arg1]

theorem iblk1_eq (c : Dev nD) (t : Fin cfg0.N) : iblk m c 1 t = V m c main_v11 := by
  funext j; show V m c main_v11 (((cfg0.win 1).blk t).view.emb j) = _; rw [emb1]

theorem iblk2_at (c : Dev nD) (t : Fin cfg0.N) (r : Fin 768) (d : Fin 512) :
    iblk m c 2 t (ix3 (0 : Fin 1) r d) = m ((c : Thread nD τ).loc main_arg0) (ix3 (ptB t) r (ptD t d)) := by
  show V m c main_arg0 (((cfg0.win 2).blk t).view.emb (ix3 (0 : Fin 1) r d)) = _; rw [emb2, V_main_arg0]

/-! ## The results -/

/-- An index of a block, by its two coordinates. -/
theorem ix3_cases {n1 n2 : ℕ} (j : (⟨3, ![1, n1, n2]⟩ : Shape).Idx) : ∃ (a : Fin n1) (b : Fin n2), j = ix3 (0 : Fin 1) a b := by
  refine ⟨j 1, j 2, ?_⟩
  funext a
  match a with
  | ⟨0, _⟩ => exact Subsingleton.elim (α := Fin 1) _ _
  | ⟨1, _⟩ => rfl
  | ⟨2, _⟩ => rfl

/-- The point whose blocks hold batch `b` and column `d`. -/
theorem point_of (b d : ℕ) (hb : b < 2) (hd : d < 16384) : ∃ t : Fin cfg0.N, t.val = b * 32 + d / 512 :=
  ⟨⟨b * 32 + d / 512, by show _ < 64; omega⟩, rfl⟩

theorem codes_final (c : Dev nD) (G : S2x16384x384.Idx → BitVec 8)
    (h : ∀ (t : Fin cfg0.N) (d : Fin 512) (r : Fin 384), codesAt m c t (ix3 (0 : Fin 1) d r) = G (ix3 (ptB t) (ptD t d) r)) :
    (dats m 0 c).arrAt 3 cfg0.N = G := by
  refine (dats m 0 c).arrAt_eq_of_cover 3 G (fun t _ => ?_) (fun i => ?_)
  · show (cfg0.win 3).cut (grid0.coords t) ((dats m 0 c).after 3 t) = _
    rw [after0_3]
    have key : ∀ j : S1x512x384.Idx, codesAt m c t j = G (((cfg0.win 3).blk t).view.emb j) := fun j => by
      obtain ⟨d, r, rfl⟩ := ix3_cases (n1 := 512) (n2 := 384) j
      exact (h t d r).trans (congrArg G (emb3 t d r).symm)
    exact funext key
  · have h0 : (i 0).val < 2 := (i 0).isLt
    have h1 : (i 1).val < 16384 := (i 1).isLt
    obtain ⟨t, ht⟩ := point_of (i 0).val (i 1).val h0 h1
    refine ⟨t, flush0_3 t, ?_⟩
    have e : ((cfg0.win 3).blk t).view.emb (ix3 (0 : Fin 1) (⟨(i 1).val % 512, by omega⟩ : Fin 512) (i 2 : Fin 384)) = i := by
      refine (emb3 t _ _).trans ?_
      funext a; apply Fin.ext
      match a with
      | ⟨0, _⟩ => show t.val / 32 = (i 0).val; omega
      | ⟨1, _⟩ => show t.val % 32 * 512 + (i 1).val % 512 = (i 1).val; omega
      | ⟨2, _⟩ => rfl
    exact e ▸ ((cfg0.win 3).blk t).view.emb_mem_set _

theorem scales_final (c : Dev nD) (G : S2x16384x24.Idx → BitVec 8)
    (h : ∀ (t : Fin cfg0.N) (d : Fin 512) (r : Fin 24), scalesAt m c t (ix3 (0 : Fin 1) d r) = G (ix3 (ptB t) (ptD t d) r)) :
    (dats m 0 c).arrAt 4 cfg0.N = G := by
  refine (dats m 0 c).arrAt_eq_of_cover 4 G (fun t _ => ?_) (fun i => ?_)
  · show (cfg0.win 4).cut (grid0.coords t) ((dats m 0 c).after 4 t) = _
    rw [after0_4]
    have key : ∀ j : S1x512x24.Idx, scalesAt m c t j = G (((cfg0.win 4).blk t).view.emb j) := fun j => by
      obtain ⟨d, r, rfl⟩ := ix3_cases (n1 := 512) (n2 := 24) j
      exact (h t d r).trans (congrArg G (emb4 t d r).symm)
    exact funext key
  · have h0 : (i 0).val < 2 := (i 0).isLt
    have h1 : (i 1).val < 16384 := (i 1).isLt
    obtain ⟨t, ht⟩ := point_of (i 0).val (i 1).val h0 h1
    refine ⟨t, flush0_4 t, ?_⟩
    have e : ((cfg0.win 4).blk t).view.emb (ix3 (0 : Fin 1) (⟨(i 1).val % 512, by omega⟩ : Fin 512) (i 2 : Fin 24)) = i := by
      refine (emb4 t _ _).trans ?_
      funext a; apply Fin.ext
      match a with
      | ⟨0, _⟩ => show t.val / 32 = (i 0).val; omega
      | ⟨1, _⟩ => show t.val % 32 * 512 + (i 1).val % 512 = (i 1).val; omega
      | ⟨2, _⟩ => rfl
    exact e ▸ ((cfg0.win 4).blk t).view.emb_mem_set _

end Cert.KernelIdeal.Body

end
-- ==== Proof.Placement.lean ====
/- THE PLACEMENT MATRIX, which the operations before the kernel make: column `c` of it picks the block's column `d` with
   `c = (d % 4) 128 + d / 4`, at three quarters of 2^25. -/
module

public import proofs.«01_k».proof.Proof.Arrays
public import proofs.«01_k».proof.Proof.Scales

@[expose] public section

set_option maxRecDepth 16384

noncomputable section

namespace Cert.KernelIdeal.Body

open Idealize.ShloMosaic Idealize.ShloMosaic.ValueIdx Idealize.ShloMosaic.TcCoe Cert.KernelIdeal Cert.KernelIdeal.Gen

/-- The matrix as an array. -/
def placeV : FVec Ideal S512x512 .bf16 :=
  truncf .bf16 (select (cmpi .eq (iotaInDim S512x512 32 1)
      (addi (muli (andi (iotaInDim S512x512 32 0) (broadcastInDim S512x512 ![] bcast_S_S512x512 (constantI S_ 32 3#32)))
        (broadcastInDim S512x512 ![] bcast_S_S512x512 (constantI S_ 32 128#32)))
        (Host.shrsi (iotaInDim S512x512 32 0) (broadcastInDim S512x512 ![] bcast_S_S512x512 (constantI S_ 32 2#32)))))
    (broadcastInDim S512x512 ![] bcast_S_S512x512 (constant S_ .f32 0x4BC00000#32))
    (broadcastInDim S512x512 ![] bcast_S_S512x512 (constant S_ .f32 0x00000000#32))) bitsLt_bf16_f32

theorem V_main_v11 (m : (ℓ : Loc nD τ sig) → Buf (Elt Ideal) ℓ) (c : Dev nD) : V m c main_v11 = placeV := by
  show StableHlo.after [hostOps0, hostOps0_1, hostOps0_2].flatten _ (Proc.devRef .tc main_v11) = _
  simp only [hostOps0, hostOps0_1, hostOps0_2, List.flatten_cons, List.flatten_nil, List.append_nil, List.cons_append, List.nil_append]
  after_results_simp
  rfl

theorem place_col : ∀ d : Fin 512, IntOp.addi (IntOp.muli (IntOp.andi (BitVec.ofNat 32 d.val) 3#32) 128#32)
    (IntOp.shrsi .host (BitVec.ofNat 32 d.val) 2#32) = BitVec.ofNat 32 (d.val % 4 * 128 + d.val / 4) := by decide +kernel

theorem place_at (d k : Fin 512) : placeV (ix2 d k)
    = if k.val = d.val % 4 * 128 + d.val / 4 then Ideal.ofBits .f32 0x4BC00000#32 else Ideal.ofBits .f32 0x00000000#32 := by
  show (if IntOp.cmpi .eq (BitVec.ofNat 32 k.val) (IntOp.addi (IntOp.muli (IntOp.andi (BitVec.ofNat 32 d.val) 3#32) 128#32)
    (IntOp.shrsi .host (BitVec.ofNat 32 d.val) 2#32)) = 1#1 then _ else _) = _
  rw [place_col]
  refine if_congr ?_ rfl rfl
  have e : IntOp.cmpi .eq (BitVec.ofNat 32 k.val) (BitVec.ofNat 32 (d.val % 4 * 128 + d.val / 4))
      = BitVec.ofBool (BitVec.ofNat 32 k.val == BitVec.ofNat 32 (d.val % 4 * 128 + d.val / 4)) := rfl
  rw [e]
  by_cases h : k.val = d.val % 4 * 128 + d.val / 4
  · rw [h]; simp
  · have : BitVec.ofNat 32 k.val ≠ BitVec.ofNat 32 (d.val % 4 * 128 + d.val / 4) := fun q => by
      have := congrArg BitVec.toNat q
      simp only [BitVec.toNat_ofNat] at this
      omega
    rw [beq_eq_false_iff_ne.2 this]
    simp [h]

end Cert.KernelIdeal.Body

end
-- ==== Proof.Products.lean ====
/- THE PRODUCTS: an element of a chunk's product is one element of the block times its group's inverse scale, at three quarters of
   2^25: the placement matrix has one entry per column. -/
module

public import proofs.«01_k».proof.Proof.Placement
public import Idealize.ShloMosaic.Lib.MatmulPlain

@[expose] public section

noncomputable section

namespace Cert.KernelIdeal.Body

open Idealize.ShloMosaic Idealize.ShloMosaic.ValueIdx Idealize.ShloMosaic.TcCoe Cert.KernelIdeal Cert.KernelIdeal.Gen

theorem scaled_at (x2 : XB) (r : ℕ) (hr : r + 32 ≤ 768) (g : ℕ) (hg : g < 24) (h : Fin 32) (d : Fin 512) :
    scaled (F := Ideal) (rowsX x2 r hr) (rowI (invV x2) g hg) (ix2 h d)
      = (x2 (ix3 (0 : Fin 1) (⟨r + h.val, by omega⟩ : Fin 768) d) : EReal) * invV x2 (ix2 (⟨g, hg⟩ : Fin 24) d) := by
  have e1 : shapeCast S32x512 (rowsX (F := Ideal) x2 r hr) shapeCasts_S1x32x512_S32x512 (ix2 h d) = x2 (ix3 (0 : Fin 1) (⟨r + h.val, by omega⟩ : Fin 768) d) := by
    rw [shapeCast_apply (s := S1x32x512) _ _ (ix2 h d) (ix3 (0 : Fin 1) h d) (by
      rw [Shape.rowMajor_val_two, Shape.rowMajor_val_three]
      show (0 * 32 + h.val) * 512 + d.val = h.val * 512 + d.val
      omega)]
    refine congrArg x2 (funext fun a => Fin.ext ?_)
    revert a; rw [Fin.forall_fin_succ, Fin.forall_fin_two]
    refine ⟨rfl, ?_, ?_⟩
    · show r + 1 * h.val = r + h.val; omega
    · show 0 + 1 * d.val = d.val; omega
  have e2 : ((broadcastTo S32x512 (truncf (F := Ideal) .bf16 (rowI (F := Ideal) (invV x2) g hg) bitsLt_bf16_f32) broadcasts_S1x512_S32x512 (ix2 h d)) : EReal)
      = (invV x2 (ix2 (⟨g, hg⟩ : Fin 24) d) : EReal) := by
    refine congrArg (fun j => (invV x2 j : EReal)) (funext fun a => Fin.ext ?_)
    revert a; rw [Fin.forall_fin_two]
    refine ⟨?_, ?_⟩
    · show g + 1 * 0 = g; omega
    · show 0 + 1 * d.val = d.val; omega
  exact congrArg₂ (fun u v : EReal => u * v) e1 e2

theorem row_axes (R : Fin 128) (h : Fin 32) (k : Fin 512) : ∀ (b : Fin 2), b.cast rfl ≠ (0 : Fin 2) →
    ((ix2 h k : S32x512.Idx) b).val = ((ix2 R k : S128x512.Idx) (b.cast rfl)).val := by
  rw [Fin.forall_fin_two]
  exact ⟨fun hb => absurd rfl hb, fun _ => rfl⟩

/-- Four groups' rows, one under the other. -/
theorem rows_at (p : Fin 4 → FVec Ideal S32x512 .bf16) (q : Fin 4) (h : Fin 32) (k : Fin 512) :
    concatenate S128x512 0 [⟨S32x512, p 0⟩, ⟨S32x512, p 1⟩, ⟨S32x512, p 2⟩, ⟨S32x512, p 3⟩] concatenates_S32x512_S32x512_S32x512_S32x512_S128x512_d0
      (ix2 (⟨32 * q.val + h.val, by omega⟩ : Fin 128) k) = p q (ix2 h k) := by
  match q with
  | ⟨0, _⟩ =>
    exact concatenate_apply_piece (t := S128x512) (0 : Fin 2) _ _ _ 0 (by show 0 < 4; decide) S32x512 _ rfl rfl 0 rfl (ix2 h k)
      (row_axes _ h k) (by show 0 + h.val = 32 * 0 + h.val; omega)
  | ⟨1, _⟩ =>
    exact concatenate_apply_piece (t := S128x512) (0 : Fin 2) _ _ _ 1 (by show 1 < 4; decide) S32x512 _ rfl rfl 32 rfl (ix2 h k)
      (row_axes _ h k) (by show 32 + h.val = 32 * 1 + h.val; omega)
  | ⟨2, _⟩ =>
    exact concatenate_apply_piece (t := S128x512) (0 : Fin 2) _ _ _ 2 (by show 2 < 4; decide) S32x512 _ rfl rfl 64 rfl (ix2 h k)
      (row_axes _ h k) (by show 64 + h.val = 32 * 2 + h.val; omega)
  | ⟨3, _⟩ =>
    exact concatenate_apply_piece (t := S128x512) (0 : Fin 2) _ _ _ 3 (by show 3 < 4; decide) S32x512 _ rfl rfl 96 rfl (ix2 h k)
      (row_axes _ h k) (by show 96 + h.val = 32 * 3 + h.val; omega)

/-- The product with the placement matrix picks one column. -/
theorem dotV_at (p : Fin 4 → FVec Ideal S32x512 .bf16) (q : Fin 4) (h : Fin 32) (l : Fin 4) (k : Fin 128) :
    dotV (F := Ideal) (p 0) (p 1) (p 2) (p 3) placeV (ix2 (⟨32 * q.val + h.val, by omega⟩ : Fin 128) (⟨k.val + 128 * l.val, by omega⟩ : Fin 512))
      = (p q (ix2 h (⟨4 * k.val + l.val, by omega⟩ : Fin 512)) : EReal) * Ideal.ofBits .f32 0x4BC00000#32 := by
  unfold dotV
  rw [shapeCast_self, shapeCast_self]
  refine (Ideal.matmul_plain_apply none _ placeV _ _ _).trans ?_
  rw [Finset.sum_eq_single (⟨4 * k.val + l.val, by omega⟩ : Fin 512)]
  · rw [rows_at, place_at, if_pos (by show k.val + 128 * l.val = (4 * k.val + l.val) % 4 * 128 + (4 * k.val + l.val) / 4; omega)]
    show Ideal.ofBits .f32 0x00000000#32 + _ = _
    rw [zero_bits, zero_add]
  · intro d _ hd
    rw [place_at, if_neg, zero_bits, mul_zero]
    intro e
    apply hd
    apply Fin.ext
    have e' : k.val + 128 * l.val = d.val % 4 * 128 + d.val / 4 := e
    show d.val = 4 * k.val + l.val
    omega
  · intro hd; exact absurd (Finset.mem_univ _) hd

/-- An element of chunk `n`. -/
theorem chunkY_at (x2 : XB) (n : ℕ) (hn : n < 6) (q : Fin 4) (h : Fin 32) (l : Fin 4) (k : Fin 128) :
    chunkY (F := Ideal) placeV x2 n hn (ix2 (⟨32 * q.val + h.val, by omega⟩ : Fin 128) (⟨k.val + 128 * l.val, by omega⟩ : Fin 512))
      = ((x2 (ix3 (0 : Fin 1) (⟨128 * n + 32 * q.val + h.val, by omega⟩ : Fin 768) (⟨4 * k.val + l.val, by omega⟩ : Fin 512)) : EReal)
          * invV x2 (ix2 (⟨4 * n + q.val, by omega⟩ : Fin 24) (⟨4 * k.val + l.val, by omega⟩ : Fin 512))) * Ideal.ofBits .f32 0x4BC00000#32 := by
  unfold chunkY
  refine (dotV_at ![_, _, _, _] q h l k).trans ?_
  refine congrArg (fun u : EReal => u * Ideal.ofBits .f32 0x4BC00000#32) ?_
  revert q
  rw [Fin.forall_fin_succ, Fin.forall_fin_succ, Fin.forall_fin_two]
  exact ⟨scaled_at x2 (128 * n) _ (4 * n) _ h _, scaled_at x2 (128 * n + 32) _ (4 * n + 1) _ h _,
    scaled_at x2 (128 * n + 64) _ (4 * n + 2) _ h _, scaled_at x2 (128 * n + 96) _ (4 * n + 3) _ h _⟩

end Cert.KernelIdeal.Body

end
-- ==== Proof.Words.lean ====
/- THE REFERENCE'S RANDOM WORDS: ten trips of its loop leave, at every element, the generator's state after ten rounds from that
   element's counter. -/
module

public import proofs.«01_k».proof.Proof.Reference
public import proofs.«01_k».proof.Proof.Philox

@[expose] public section

set_option maxRecDepth 16384

noncomputable section

namespace Cert.ReferenceIdeal.Words

open Idealize.ShloMosaic Idealize.ShloMosaic.ValueIdx Idealize.ShloMosaic.TcCoe Cert.ReferenceIdeal Cert.ReferenceIdeal.Gen Cert.ReferenceIdeal.Step
open Cert.KernelIdeal.Body (Four roundF rounds mulHi hi_halves key0 key1)

/-- The loop's state before trip `n`. -/
def iter (a : (⟨S2, .i32⟩ : BufTy).Contents (Elt Ideal)) : ℕ → State Ideal
  | 0 => init a
  | n + 1 => step n (iter a n)

/-- A scalar spread over the array. -/
abbrev bc (m : IVec S_ 32) : IVec S2x768x4096 32 := broadcastInDim S2x768x4096 ![] bcast_S_S2x768x4096 m

/-- The two lower partial products of a multiplication by halves. -/
def midV (m : IVec S_ 32) (a : IVec S2x768x4096 32) : IVec S2x768x4096 32 :=
  addi (muli (bc (Host.shrui m (constantI S_ 32 16#32))) (andi a (bc (constantI S_ 32 65535#32))))
    (Host.shrui (muli (bc (andi m (constantI S_ 32 65535#32))) (andi a (bc (constantI S_ 32 65535#32)))) (bc (constantI S_ 32 16#32)))

/-- The high word of a product, by halves. -/
def hiV (m : IVec S_ 32) (a mid : IVec S2x768x4096 32) : IVec S2x768x4096 32 :=
  addi (addi (muli (bc (Host.shrui m (constantI S_ 32 16#32))) (Host.shrui a (bc (constantI S_ 32 16#32)))) (Host.shrui mid (bc (constantI S_ 32 16#32))))
    (Host.shrui (addi (muli (bc (andi m (constantI S_ 32 65535#32))) (Host.shrui a (bc (constantI S_ 32 16#32)))) (andi mid (bc (constantI S_ 32 65535#32))))
      (bc (constantI S_ 32 16#32)))

/-- One element of it. -/
def midS (m a : BitVec 32) : BitVec 32 := (m >>> 16) * (a &&& 65535#32) + (((m &&& 65535#32) * (a &&& 65535#32)) >>> 16)

theorem midV_apply (m : BitVec 32) (a : IVec S2x768x4096 32) (x : S2x768x4096.Idx) : midV (constantI S_ 32 m) a x = midS m (a x) := rfl

theorem hiV_apply (m : BitVec 32) (a mid : IVec S2x768x4096 32) (x : S2x768x4096.Idx) : hiV (constantI S_ 32 m) a mid x
    = (m >>> 16) * (a x >>> 16) + (mid x >>> 16) + (((m &&& 65535#32) * (a x >>> 16) + (mid x &&& 65535#32)) >>> 16) := rfl

theorem hi_at (m : BitVec 32) (a : IVec S2x768x4096 32) (x : S2x768x4096.Idx) :
    hiV (constantI S_ 32 m) a (midV (constantI S_ 32 m) a) x = mulHi m.toNat (a x) := by
  rw [hiV_apply, midV_apply]
  exact hi_halves m (a x)

/-- The four words of a state at one element. -/
def at4 (s : State Ideal) (x : S2x768x4096.Idx) : Four := ⟨s.main_v11_4 x, s.main_v11_5 x, s.main_v11_6 x, s.main_v11_7 x⟩

theorem high0 (j : ℕ) (s : State Ideal) : b37 j s = hiV (constantI S_ 32 3528531795#32) s.main_v11_4 (midV (constantI S_ 32 3528531795#32) s.main_v11_4) := rfl
theorem high1 (j : ℕ) (s : State Ideal) : b73 j s = hiV (constantI S_ 32 3449720151#32) s.main_v11_6 (midV (constantI S_ 32 3449720151#32) s.main_v11_6) := rfl

theorem mul_toNat0 : (3528531795#32).toNat = 3528531795 := by decide
theorem mul_toNat1 : (3449720151#32).toNat = 3449720151 := by decide

/-- One trip is one round. -/
theorem step_at (j : ℕ) (s : State Ideal) (x : S2x768x4096.Idx) (k0 k1 : BitVec 32) (h0 : s.main_v11_8 = fun _ => k0) (h1 : s.main_v11_9 = fun _ => k1) :
    at4 (step j s) x = roundF (at4 s x) k0 k1 := by
  unfold at4 roundF
  rw [step_main_v11_4, step_main_v11_5, step_main_v11_6, step_main_v11_7]
  refine Four.ext ?_ ?_ ?_ ?_
  · show (b73 j s x ^^^ s.main_v11_5 x) ^^^ b75 j s x = _
    rw [high1, hi_at, mul_toNat1]
    unfold b75
    rw [h0]; rfl
  · exact BitVec.mul_comm (3449720151#32) (s.main_v11_6 x)
  · show (b37 j s x ^^^ s.main_v11_7 x) ^^^ b78 j s x = _
    rw [high0, hi_at, mul_toNat0]
    unfold b78
    rw [h1]; rfl
  · exact BitVec.mul_comm (3528531795#32) (s.main_v11_4 x)

theorem seed0 (a : (⟨S2, .i32⟩ : BufTy).Contents (Elt Ideal)) : A_main_v8 (F := Ideal) a = fun _ => a (ix1 (0 : Fin 2)) := by
  funext i
  unfold A_main_v8 A_main_v7
  refine (shapeCast_apply (s := S1) _ _ i (ix1 (0 : Fin 1)) rfl).trans ?_
  refine congrArg a (funext fun d => ?_)
  have hd : d = 0 := Subsingleton.elim _ _
  subst hd; rfl

theorem seed1 (a : (⟨S2, .i32⟩ : BufTy).Contents (Elt Ideal)) : A_main_v10 (F := Ideal) a = fun _ => a (ix1 (1 : Fin 2)) := by
  funext i
  unfold A_main_v10 A_main_v9
  refine (shapeCast_apply (s := S1) _ _ i (ix1 (0 : Fin 1)) rfl).trans ?_
  refine congrArg a (funext fun d => ?_)
  have hd : d = 0 := Subsingleton.elim _ _
  subst hd; rfl

theorem keys (a : (⟨S2, .i32⟩ : BufTy).Contents (Elt Ideal)) (n : ℕ) :
    (iter a n).main_v11_8 = (fun _ => key0 (a (ix1 (0 : Fin 2))) n) ∧ (iter a n).main_v11_9 = fun _ => key1 (a (ix1 (1 : Fin 2))) n := by
  induction n with
  | zero => exact ⟨seed0 a, seed1 a⟩
  | succ n ih =>
    obtain ⟨e0, e1⟩ := ih
    refine ⟨?_, ?_⟩
    · show (step n (iter a n)).main_v11_8 = _
      rw [step_main_v11_8]; unfold b81; rw [e0]; rfl
    · show (step n (iter a n)).main_v11_9 = _
      rw [step_main_v11_9]; unfold b83; rw [e1]; rfl

theorem quad_apply (n : Fin 6291456) : K_main_v4 (F := Ideal) (ix1 n) = (BitVec.ofNat 32 n.val * 4#32) >>> 2 := rfl

theorem quad_eq (n : ℕ) (h : n < 6291456) : (BitVec.ofNat 32 n * 4#32) >>> 2 = BitVec.ofNat 32 n := by
  apply BitVec.eq_of_toNat_eq
  rw [BitVec.toNat_ushiftRight, BitVec.toNat_mul, Nat.shiftRight_eq_div_pow, BitVec.toNat_ofNat, BitVec.toNat_ofNat]
  omega

/-- The counter of an element. -/
theorem counter_at (b : Fin 2) (r : Fin 768) (k : Fin 4096) :
    K_main_v5 (F := Ideal) (ix3 b r k) = BitVec.ofNat 32 ((b.val * 768 + r.val) * 4096 + k.val) := by
  have hn : (b.val * 768 + r.val) * 4096 + k.val < 6291456 := by omega
  unfold K_main_v5
  refine (shapeCast_apply (s := S6291456) _ _ (ix3 b r k) (ix1 (⟨(b.val * 768 + r.val) * 4096 + k.val, hn⟩ : Fin 6291456)) (by
    rw [Shape.rowMajor_val_three, Shape.rowMajor_val_one]; rfl)).trans ?_
  rw [quad_apply]
  exact quad_eq _ hn

/-- The state before trip `n` is the generator's after `n` rounds. -/
theorem iter_at (a : (⟨S2, .i32⟩ : BufTy).Contents (Elt Ideal)) (b : Fin 2) (r : Fin 768) (k : Fin 4096) (n : ℕ) :
    at4 (iter a n) (ix3 b r k) = rounds (BitVec.ofNat 32 ((b.val * 768 + r.val) * 4096 + k.val)) (a (ix1 (0 : Fin 2))) (a (ix1 (1 : Fin 2))) n := by
  induction n with
  | zero => exact Four.ext (counter_at b r k) rfl rfl rfl
  | succ n ih =>
    show at4 (step n (iter a n)) _ = roundF _ _ _
    rw [step_at n _ _ _ _ (keys a n).1 (keys a n).2, ih]

end Cert.ReferenceIdeal.Words

end
-- ==== Proof.Value.lean ====
/- THE BLOCKS ARE THE REFERENCE'S: what the kernel's body leaves in a block of scales and in a block of codes is the reference's result
   at that block's place. -/
module

public import proofs.«01_k».proof.Proof.Element
public import proofs.«01_k».proof.Proof.Products
public import proofs.«01_k».proof.Proof.Words

@[expose] public section

set_option maxRecDepth 16384

noncomputable section

namespace Cert.Value

open Idealize.ShloMosaic Idealize.ShloMosaic.ValueIdx Idealize.ShloMosaic.TcCoe Cert.KernelIdeal Cert.KernelIdeal.Gen Cert.KernelIdeal.Body
open Cert.Expo Cert.CodeStep Cert.Bytes Cert.Element
open Cert.ReferenceIdeal.Read (X amaxAt scaleS magS nibS codeS word scales_at codes_at)
open Cert.ReferenceIdeal.Words (iter at4 iter_at)
open Cert.ReferenceIdeal.Step (R_main_v102 R_main_v104 State)

/-- One of the generator's words. -/
def fourAt (s : Four) (l : Fin 4) : BitVec 32 := (![s.c0, s.c1, s.c2, s.c3] : Fin 4 → BitVec 32) l

/-- No element of a group is greater than the group's maximum. -/
theorem le_amaxB (x2 : XB) (g : Fin 24) (h : Fin 32) (d : Fin 512) :
    max (x2 (ix3 (0 : Fin 1) (⟨32 * g.val + h.val, by omega⟩ : Fin 768) d) : EReal)
      (-(x2 (ix3 (0 : Fin 1) (⟨32 * g.val + h.val, by omega⟩ : Fin 768) d) : EReal)) ≤ amaxB x2 g d :=
  (Finset.le_fold_max _).2 (Or.inr ⟨h, Finset.mem_univ _, le_rfl⟩)

/-- The code that belongs to an element of a block under a random word. -/
def codeB (x2 : XB) (r : Fin 768) (d : Fin 512) (w : BitVec 32) : BitVec 32 :=
  nibS (x2 (ix3 (0 : Fin 1) r d)) (magS (x2 (ix3 (0 : Fin 1) r d)) (amaxB x2 (⟨r.val / 32, by omega⟩ : Fin 24) d)) w

theorem codeB_group (x2 : XB) (g : Fin 24) (h : Fin 32) (r : Fin 768) (d : Fin 512) (w : BitVec 32) (hr : r.val = 32 * g.val + h.val) :
    codeB x2 r d w = nibS (x2 (ix3 (0 : Fin 1) (⟨32 * g.val + h.val, by omega⟩ : Fin 768) d))
      (magS (x2 (ix3 (0 : Fin 1) (⟨32 * g.val + h.val, by omega⟩ : Fin 768) d)) (amaxB x2 g d)) w := by
  obtain ⟨r, hlt⟩ := r
  change r = 32 * g.val + h.val at hr
  subst hr
  unfold codeB
  have eg : (⟨(32 * g.val + h.val) / 32, by omega⟩ : Fin 24) = g := Fin.ext (by show (32 * g.val + h.val) / 32 = g.val; omega)
  exact congrArg (fun u => nibS _ (magS _ (amaxB x2 u d)) w) eg

theorem chunkY_group (x2 : XB) (n : ℕ) (hn : n < 6) (q : Fin 4) (h : Fin 32) (l : Fin 4) (k : Fin 128) (g : Fin 24) (hg : g.val = 4 * n + q.val) :
    chunkY (F := Ideal) placeV x2 n hn (ix2 (⟨32 * q.val + h.val, by omega⟩ : Fin 128) (⟨k.val + 128 * l.val, by omega⟩ : Fin 512))
      = ((x2 (ix3 (0 : Fin 1) (⟨32 * g.val + h.val, by omega⟩ : Fin 768) (⟨4 * k.val + l.val, by omega⟩ : Fin 512)) : EReal)
          * invK (amaxB x2 g (⟨4 * k.val + l.val, by omega⟩ : Fin 512))) * Ideal.ofBits .f32 0x4BC00000#32 := by
  obtain ⟨g, hlt⟩ := g
  change g = 4 * n + q.val at hg
  subst hg
  rw [chunkY_at x2 n hn q h l k, invV_at]
  have er : (⟨128 * n + 32 * q.val + h.val, by omega⟩ : Fin 768) = ⟨32 * (4 * n + q.val) + h.val, by omega⟩ :=
    Fin.ext (by show 128 * n + 32 * q.val + h.val = 32 * (4 * n + q.val) + h.val; omega)
  rw [er]

/-- One element of a chunk. -/
theorem element_at (x2 : XB) (hg : ∀ g d, Good (amaxB x2 g d)) (n : ℕ) (hn : n < 6) (R k : Fin 128) (l : Fin 4) (w : BitVec 32) :
    ∃ (N : Fin 8) (S : Bool),
      negS (chunkY (F := Ideal) placeV x2 n hn (ix2 R (⟨k.val + 128 * l.val, by omega⟩ : Fin 512))) w = BitVec.ofInt 32 (-48 - (N.val : ℤ))
      ∧ signS (chunkY (F := Ideal) placeV x2 n hn (ix2 R (⟨k.val + 128 * l.val, by omega⟩ : Fin 512))) = (BitVec.ofBool S).setWidth 32
      ∧ codeB x2 (⟨128 * n + R.val, by omega⟩ : Fin 768) (⟨4 * k.val + l.val, by omega⟩ : Fin 512) w = code32 N S := by
  obtain ⟨q, h, rfl⟩ : ∃ (q : Fin 4) (h : Fin 32), R = (⟨32 * q.val + h.val, by omega⟩ : Fin 128) :=
    ⟨⟨R.val / 32, by omega⟩, ⟨R.val % 32, by omega⟩, Fin.ext (by show R.val = 32 * (R.val / 32) + R.val % 32; omega)⟩
  rw [chunkY_group x2 n hn q h l k (⟨4 * n + q.val, by omega⟩ : Fin 24) rfl,
    codeB_group x2 (⟨4 * n + q.val, by omega⟩ : Fin 24) h _ _ w (by show 128 * n + (32 * q.val + h.val) = 32 * (4 * n + q.val) + h.val; omega)]
  exact element (hg _ _) (le_amaxB x2 _ _ _) w

/-- A code word of a chunk holds four codes. -/
theorem nib_bytes (x2 : XB) (hg : ∀ g d, Good (amaxB x2 g d)) (b j : ℕ) (k0 k1 : BitVec 32) (n : ℕ) (hn : n < 6) (R k : Fin 128) :
    ∃ (N : Fin 4 → Fin 8) (S : Fin 4 → Bool),
      nibAt (F := Ideal) (128 * n) b j k0 k1 (chunkY placeV x2 n hn) R k = bytes (fun l => code8 (N l) (S l))
      ∧ ∀ l : Fin 4, codeB x2 (⟨128 * n + R.val, by omega⟩ : Fin 768) (⟨4 * k.val + l.val, by omega⟩ : Fin 512)
          (fourAt (rounds (BitVec.ofNat 32 ((b * 768 + 128 * n + R.val) * 4096 + j * 128 + k.val)) k0 k1 10) l) = code32 (N l) (S l) := by
  choose N S h1 h2 h3 using fun l => element_at x2 hg n hn R k l
    (fourAt (rounds (BitVec.ofNat 32 ((b * 768 + 128 * n + R.val) * 4096 + j * 128 + k.val)) k0 k1 10) l)
  refine ⟨N, S, ?_, h3⟩
  unfold nibAt
  rw [packedAt_eq]
  refine packS_eq _ _ N S ?_ ?_
  · rw [Fin.forall_fin_succ, Fin.forall_fin_succ, Fin.forall_fin_two]
    exact ⟨h1 0, h1 1, h1 2, h1 3⟩
  · rw [Fin.forall_fin_succ, Fin.forall_fin_succ, Fin.forall_fin_two]
    exact ⟨h2 0, h2 1, h2 2, h2 3⟩

/-- The array's columns of a block. -/
theorem col_lt {j : ℕ} (hj : j < 32) (d : Fin 512) : j * 512 + d.val < 16384 := by omega

variable (x : X) (a : IVec S2 32) (b : Fin 2) (j : ℕ) (hj : j < 32) (x2 : XB)
  (hx : ∀ (r : Fin 768) (d : Fin 512), (x2 (ix3 (0 : Fin 1) r d) : EReal) = x (ix3 b r (⟨j * 512 + d.val, col_lt hj d⟩ : Fin 16384)))

include hx

theorem amaxB_eq (g : Fin 24) (d : Fin 512) : amaxB x2 g d = amaxAt x b g (⟨j * 512 + d.val, col_lt hj d⟩ : Fin 16384) := by
  unfold amaxB amaxAt
  simp only [hx]

/-- The reference's code at a place of the block. -/
theorem codeS_eq (r : Fin 768) (d : Fin 512) : codeS (iter a 10) x b r (⟨j * 512 + d.val, col_lt hj d⟩ : Fin 16384)
    = codeB x2 r d (fourAt (rounds (BitVec.ofNat 32 ((b.val * 768 + r.val) * 4096 + j * 128 + d.val / 4)) (a (ix1 (0 : Fin 2))) (a (ix1 (1 : Fin 2))) 10)
        (⟨d.val % 4, by omega⟩ : Fin 4)) := by
  unfold codeS codeB
  rw [hx, amaxB_eq x b j hj x2 hx]
  refine congrArg (nibS _ _) ?_
  have el : (⟨(j * 512 + d.val) % 4, by omega⟩ : Fin 4) = ⟨d.val % 4, by omega⟩ := Fin.ext (by show (j * 512 + d.val) % 4 = d.val % 4; omega)
  have ek : (⟨(j * 512 + d.val) / 4, by omega⟩ : Fin 4096) = ⟨j * 128 + d.val / 4, by omega⟩ :=
    Fin.ext (by show (j * 512 + d.val) / 4 = j * 128 + d.val / 4; omega)
  dsimp only
  rw [el, ek]
  show fourAt (at4 (iter a 10) (ix3 b r _)) _ = _
  rw [iter_at, ← Nat.add_assoc]

/-- A block of scales. -/
theorem scales_block (hg : ∀ g d, Good (amaxAt x b g d)) (s : State Ideal) (d : Fin 512) (g : Fin 24) :
    scalesV x2 (ix3 (0 : Fin 1) d g) = R_main_v104 s x (ix3 b (⟨j * 512 + d.val, col_lt hj d⟩ : Fin 16384) g) := by
  rw [scalesV_at, scales_at, amaxB_eq x b j hj x2 hx]
  exact scale_eq (hg _ _)

/-- A block of codes. -/
theorem codes_block (hg : ∀ g d, Good (amaxAt x b g d)) (d : Fin 512) (r : Fin 384) :
    codesV (F := Ideal) b.val j a placeV x2 (ix3 (0 : Fin 1) d r) = R_main_v102 (iter a 10) x (ix3 b (⟨j * 512 + d.val, col_lt hj d⟩ : Fin 16384) r) := by
  have hgB : ∀ g d, Good (amaxB x2 g d) := fun g d => by rw [amaxB_eq x b j hj x2 hx]; exact hg _ _
  have hn : r.val / 64 < 6 := by omega
  obtain ⟨N, S, e, he⟩ := nib_bytes x2 hgB b.val j (a (ix1 (0 : Fin 2))) (a (ix1 (1 : Fin 2))) (r.val / 64) hn
    (⟨2 * (r.val % 64), by omega⟩ : Fin 128) (⟨d.val / 4, by omega⟩ : Fin 128)
  obtain ⟨N', S', o, ho⟩ := nib_bytes x2 hgB b.val j (a (ix1 (0 : Fin 2))) (a (ix1 (1 : Fin 2))) (r.val / 64) hn
    (⟨2 * (r.val % 64) + 1, by omega⟩ : Fin 128) (⟨d.val / 4, by omega⟩ : Fin 128)
  have hw : wordsV (F := Ideal) b.val j a placeV x2 (ix2 r (⟨d.val / 4, by omega⟩ : Fin 128))
      = bytes (fun l => code8 (N l) (S l)) ||| bytes (fun l => code8 (N' l) (S' l)) <<< 4 := by
    rw [← e, ← o]; rfl
  have hb : codesV (F := Ideal) b.val j a placeV x2 (ix3 (0 : Fin 1) d r)
      = code8 (N ⟨d.val % 4, by omega⟩) (S ⟨d.val % 4, by omega⟩) ||| code8 (N' ⟨d.val % 4, by omega⟩) (S' ⟨d.val % 4, by omega⟩) <<< 4 := by
    apply BitVec.eq_of_getLsbD_eq
    intro i hi
    unfold codesV
    rw [pay2_getLsbD _ d r i hi, hw]
    exact pair_getLsbD N N' S S' ⟨d.val % 4, by omega⟩ i hi
  rw [hb, codes_at, ← code_pair]
  rw [codeS_eq x a b j hj x2 hx, codeS_eq x a b j hj x2 hx, ← he, ← ho]
  have ed : (⟨4 * (d.val / 4) + d.val % 4, by omega⟩ : Fin 512) = d := Fin.ext (by show 4 * (d.val / 4) + d.val % 4 = d.val; omega)
  have e0 : (⟨128 * (r.val / 64) + 2 * (r.val % 64), by omega⟩ : Fin 768) = ⟨2 * r.val, by omega⟩ :=
    Fin.ext (by show 128 * (r.val / 64) + 2 * (r.val % 64) = 2 * r.val; omega)
  have e1 : (⟨128 * (r.val / 64) + (2 * (r.val % 64) + 1), by omega⟩ : Fin 768) = ⟨2 * r.val + 1, by omega⟩ :=
    Fin.ext (by show 128 * (r.val / 64) + (2 * (r.val % 64) + 1) = 2 * r.val + 1; omega)
  have n0 : b.val * 768 + 128 * (r.val / 64) + 2 * (r.val % 64) = b.val * 768 + 2 * r.val := by omega
  have n1 : b.val * 768 + 128 * (r.val / 64) + (2 * (r.val % 64) + 1) = b.val * 768 + (2 * r.val + 1) := by omega
  dsimp only
  rw [ed, e0, e1, n0, n1]

end Cert.Value

end
-- ==== Proof.Range.lean ====
/- THE PRECONDITION READ: every group's greatest magnitude is zero or in the range that both programs scale. -/
module

public import proofs.«01_k».proof.Proof.Scales
public import proofs.«01_k».proof.Proof.Gen.Pre_in_range
public import Idealize.ShloMosaic.Lib.ReduceAll
public import Idealize.ShloMosaic.Lib.Affine

@[expose] public section

set_option maxRecDepth 16384

noncomputable section

namespace Cert.Range

open Idealize.ShloMosaic Idealize.ShloMosaic.ValueIdx Cert.Pre_in_range Cert.Pre_in_range.Gen Cert.Expo
open Cert.ReferenceIdeal.Read (amaxAt)

/-- The groups' magnitudes. -/
def mags (x : FVec Ideal S2x768x16384 .bf16) : FVec Ideal S2x24x32x16384 .f32 :=
  shapeCast S2x24x32x16384 (Host.absf (extf .f32 x bitsLt_bf16_f32)) shapeCasts_S2x768x16384_S2x24x32x16384

/-- Their maxima. -/
def maxima (x : FVec Ideal S2x768x16384 .bf16) : FVec Ideal S2x24x16384 .f32 :=
  Host.reduce FloatOps.maximumf (mags x) (constant S_ .f32 0xFF800000#32) reducesTo_S2x24x32x16384_S2x24x16384_d2 h_S_

/-- What the precondition asks of one group. -/
def askS (a : EReal) : BitVec 1 :=
  IntOp.ori (Ideal.cmp .oeq a (Ideal.ofBits .f32 0x00000000#32))
    (IntOp.andi (Ideal.cmp .oge a (Ideal.ofBits .f32 0x01000000#32)) (Ideal.cmp .ole a (Ideal.ofBits .f32 0x7F7F0000#32)))

def ask (v : FVec Ideal S2x24x16384 .f32) : IVec S2x24x16384 1 :=
  ori (cmpf .oeq v (broadcastInDim S2x24x16384 ![] bcast_S_S2x24x16384 (constant S_ .f32 0x00000000#32)))
    (andi (cmpf .oge v (broadcastInDim S2x24x16384 ![] bcast_S_S2x24x16384 (constant S_ .f32 0x01000000#32)))
      (cmpf .ole v (broadcastInDim S2x24x16384 ![] bcast_S_S2x24x16384 (constant S_ .f32 0x7F7F0000#32))))

theorem ask_apply (v : FVec Ideal S2x24x16384 .f32) (i : S2x24x16384.Idx) : ask v i = askS (v i) := rfl

theorem fn_eq (x : FVec Ideal S2x768x16384 .bf16) (s : IVec S2 32) :
    Cert.Pre_in_range.fn (F := Ideal) x s = Host.reduce IntOp.andi (ask (maxima x)) (constantI S_ 1 1#1) reducesTo_S2x24x16384_S_d0_1_2 h_S_ := rfl

theorem mags_at (x : FVec Ideal S2x768x16384 .bf16) (b : Fin 2) (g : Fin 24) (h : Fin 32) (d : Fin 16384) :
    mags x (ix4 b g h d) = max (x (ix3 b (⟨32 * g.val + h.val, by omega⟩ : Fin 768) d) : EReal)
      (-(x (ix3 b (⟨32 * g.val + h.val, by omega⟩ : Fin 768) d) : EReal)) := by
  unfold mags
  rw [shapeCast_apply (s := S2x768x16384) _ _ (ix4 b g h d) (ix3 b (⟨32 * g.val + h.val, by omega⟩ : Fin 768) d) (by
    rw [Shape.rowMajor_val_four, Shape.rowMajor_val_three]
    show (b.val * 768 + (32 * g.val + h.val)) * 16384 + d.val = ((b.val * 24 + g.val) * 32 + h.val) * 16384 + d.val
    omega)]
  rfl

theorem maximum_eq (G : FVec Ideal S2x24x32x16384 .f32) (i : S2x24x16384.Idx) :
    Host.reduce FloatOps.maximumf G (constant S_ .f32 0xFF800000#32) reducesTo_S2x24x32x16384_S2x24x16384_d2 h_S_ i
      = (Finset.univ : Finset (Fin 32)).fold max (Ideal.ofBits .f32 0xFF800000#32) fun h => (G (ix4 (i 0) (i 1) h (i 2)) : EReal) := by
  have h := Host.reduce_eq_fold_single (α := EReal) (a := (2 : Fin 4)) (max : EReal → EReal → EReal) G
    (constant S_ .f32 0xFF800000#32 : FVec Ideal S_ .f32) reducesTo_S2x24x32x16384_S2x24x16384_d2 (by decide) h_S_ i
  refine Eq.trans h (congrArg (fun f : Fin 32 → EReal => (Finset.univ : Finset (Fin 32)).fold max (Ideal.ofBits .f32 0xFF800000#32) f) (funext fun h => ?_))
  have e : (Shape.Reduces.lift (by decide : S2x24x32x16384.Reduces [(2 : Fin 4)] S2x24x16384) i h) = ix4 (i 0) (i 1) h (i 2) := by
    funext a; revert a
    rw [Fin.forall_fin_succ, Fin.forall_fin_succ, Fin.forall_fin_two]
    exact ⟨rfl, rfl, rfl, rfl⟩
  exact congrArg G e

theorem maxima_at (x : FVec Ideal S2x768x16384 .bf16) (b : Fin 2) (g : Fin 24) (d : Fin 16384) :
    maxima x (ix3 b g d) = amaxAt x b g d := by
  unfold maxima amaxAt
  rw [maximum_eq]
  exact congrArg (fun f : Fin 32 → EReal => (Finset.univ : Finset (Fin 32)).fold max (Ideal.ofBits .f32 0xFF800000#32) f)
    (funext fun h => mags_at x b g h d)

theorem cmp_oge {a b : EReal} : Ideal.cmp .oge a b = 1#1 ↔ b ≤ a := by
  show BitVec.ofBool (decide _) = 1#1 ↔ _
  by_cases h : b ≤ a <;> simp [h]

theorem cmp_ole {a b : EReal} : Ideal.cmp .ole a b = 1#1 ↔ a ≤ b := by
  show BitVec.ofBool (decide _) = 1#1 ↔ _
  by_cases h : a ≤ b <;> simp [h]

theorem ori_one (c d : BitVec 1) : IntOp.ori c d = 1#1 ↔ c = 1#1 ∨ d = 1#1 := by revert c d; decide

theorem good_of_ask {a : EReal} (h : askS a = 1#1) : Good a := by
  rcases (ori_one _ _).1 h with h | h
  · exact Or.inl ((Cert.KernelIdeal.Body.cmp_oeq.1 h).trans Cert.KernelIdeal.Body.zero_bits)
  · obtain ⟨h1, h2⟩ := IntOp.andi_eq_one.1 h
    exact Or.inr ⟨cmp_oge.1 h1, cmp_ole.1 h2⟩

/-- Every group is in range. -/
theorem good (x : FVec Ideal S2x768x16384 .bf16) (s : IVec S2 32) (h : Cert.Pre_in_range.fn (F := Ideal) x s = fun _ => 1#1)
    (b : Fin 2) (g : Fin 24) (d : Fin 16384) : Good (amaxAt x b g d) := by
  rw [fn_eq] at h
  haveI : Subsingleton S_.Idx := ⟨fun _ _ => funext fun a => Fin.elim0 a⟩
  have h1 := Host.reduce_andi_all _ _ _ _ _ (congrFun h (Shape.Idx.first h_S_)) (ix3 b g d)
  rw [ask_apply, maxima_at] at h1
  exact good_of_ask h1

end Cert.Range

end
-- ==== Proof.Equal.lean ====
/- BOTH RESULTS: from memories that agree on the arguments, with every group in range, the kernel and the reference end with the same
   codes and the same scales. -/
module

public import proofs.«01_k».proof.Proof.Value
public import proofs.«01_k».proof.Proof.Range
public import proofs.«01_k».proof.Proof.Gen.ReferenceIdeal.StepRun

@[expose] public section

noncomputable section

namespace Cert.Equal

open Idealize.ShloMosaic Idealize.ShloMosaic.ValueIdx Idealize.ShloMosaic.TcCoe Idealize.SL.Sem Cert.KernelIdeal Cert.KernelIdeal.Gen Cert.KernelIdeal.Body
open Cert.ReferenceIdeal.Words (iter)
open Cert.ReferenceIdeal.Step (R_main_v102 R_main_v104)

variable (m : (ℓ : Loc nD τ sig) → Buf (Elt Ideal) ℓ) (c : Dev nD)
  (h : Cert.Pre_in_range.fn (F := Ideal) (m ((c.tc : Thread nD τ).loc main_arg0)) (m ((c.tc : Thread nD τ).loc main_arg1)) = fun _ => 1#1)

include h

/-- The kernel's codes are the reference's. -/
theorem codes : (dats m 0 c).arrAt 3 cfg0.N
    = R_main_v102 (F := Ideal) (iter (m ((c.tc : Thread nD τ).loc main_arg1)) 10) (m ((c.tc : Thread nD τ).loc main_arg0)) := by
  refine codes_final m c _ fun t d r => ?_
  unfold codesAt
  rw [iblk0_eq, iblk1_eq, V_main_v11, (coords0 t).1, (coords0 t).2]
  exact Cert.Value.codes_block (m ((c.tc : Thread nD τ).loc main_arg0)) (m ((c.tc : Thread nD τ).loc main_arg1)) (ptB t) (t.val % 32) (by omega)
    (iblk m c 2 t) (fun r d => iblk2_at m c t r d) (fun g d => Cert.Range.good _ _ h (ptB t) g d) d r

/-- The kernel's scales are the reference's. -/
theorem scales : (dats m 0 c).arrAt 4 cfg0.N
    = R_main_v104 (F := Ideal) (iter (m ((c.tc : Thread nD τ).loc main_arg1)) 10) (m ((c.tc : Thread nD τ).loc main_arg0)) := by
  refine scales_final m c _ fun t d g => ?_
  unfold scalesAt
  exact Cert.Value.scales_block (m ((c.tc : Thread nD τ).loc main_arg0)) (ptB t) (t.val % 32) (by omega)
    (iblk m c 2 t) (fun r d => iblk2_at m c t r d) (fun g d => Cert.Range.good _ _ h (ptB t) g d) _ d g

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.StepRun
public import proofs.«01_k».proof.Proof.Gen.Pre_in_range
public import proofs.«01_k».proof.Proof.KernelFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs and leaves its arguments and its semaphores as they were. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run m ρ)

/-- Both results agree. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c => Cert.ReferenceIdeal.Step.R_main_v102 (F := Ideal)
      (Cert.ReferenceIdeal.Words.iter (m ((c.tc : Thread Cert.KernelIdeal.nD Cert.KernelIdeal.τ).loc Cert.KernelIdeal.main_arg1)) 10)
      (m ((c.tc : Thread Cert.KernelIdeal.nD Cert.KernelIdeal.τ).loc Cert.KernelIdeal.main_arg0)),
    fun c => Cert.ReferenceIdeal.Step.R_main_v104 (F := Ideal)
      (Cert.ReferenceIdeal.Words.iter (m ((c.tc : Thread Cert.KernelIdeal.nD Cert.KernelIdeal.τ).loc Cert.KernelIdeal.main_arg1)) 10)
      (m ((c.tc : Thread Cert.KernelIdeal.nD Cert.KernelIdeal.τ).loc Cert.KernelIdeal.main_arg0)), ?_, ?_⟩
  · exact Cert.KernelIdeal.Body.results m g _ _ (fun c => Cert.Equal.codes m c (hpre c)) (fun c => Cert.Equal.scales m c (hpre c))
  · refine (θ_run Cert.ReferenceIdeal.defs _ _).mono (fun r h c => ?_)
      (Cert.ReferenceIdeal.StepRun.run_iter m' g'
        (fun c => Cert.ReferenceIdeal.Words.iter (m ((c.tc : Thread Cert.KernelIdeal.nD Cert.KernelIdeal.τ).loc Cert.KernelIdeal.main_arg1)))
        (fun c => congrArg (Cert.ReferenceIdeal.Step.init (F := Ideal)) (hargs c).2.symm) (fun c n => rfl))
    have hc := h c
    rw [(hargs c).1] at hc
    exact ⟨hc.1, hc.2.1, hc.2.2.1.trans (hargs c).1.symm, hc.2.2.2⟩

theorem claim : Cert.Claim := ⟨Cert.Kernel.Gen.facts, Cert.KernelIdeal.Gen.facts, Cert.ReferenceIdeal.Gen.facts, Cert.Pre_in_range.Gen.facts,
  fun m ρ _ => Cert.Kernel.Unchanged.frame m ρ,
  fun m ρ _ => Cert.KernelIdeal.Body.frame m ρ,
  fun m ρ _ => Cert.KernelIdeal.Body.frame m ρ,
  fun m ρ _ => reference_frame m ρ,
  fun m ρ _ => reference_frame m ρ,
  trivial,
  algebraic⟩

end Cert.Proof

end
